-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S256x512 : Shape := ⟨2, ![256, 512]⟩
abbrev S4 : Shape := ⟨1, ![4]⟩
abbrev S_ : Shape := ⟨0, ![]⟩
abbrev S1 : Shape := ⟨1, ![1]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v27 : Index := Scalar.indexCast v11
  let c0 : Index := 0#32
  ![v27.toNat, 0]
def k0_dev3 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v33 : BitVec 32 := Scalar.muli v9 c8_i32_20
  let v34 : BitVec 32 := Scalar.addi c0_i32_21 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v35 : BitVec 32 := Scalar.muli v5 c4_i32_22
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v37 : BitVec 32 := Scalar.muli v8 c1_i32_23
  let v38 : BitVec 32 := Scalar.addi v36 v37
  v38.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v45 : BitVec 32 := Scalar.muli v9 c8_i32_30
  let v46 : BitVec 32 := Scalar.addi c0_i32_31 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v47 : BitVec 32 := Scalar.muli v5 c4_i32_32
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v49 : BitVec 32 := Scalar.muli v8 c1_i32_33
  let v50 : BitVec 32 := Scalar.addi v48 v49
  v50.toNat
def k0_dev5 (d0 : Dev nD) : Nat :=
  let c0_i32_40 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_39 : BitVec 32 := 8#32
  let v57 : BitVec 32 := Scalar.muli v9 c8_i32_39
  let v58 : BitVec 32 := Scalar.addi c0_i32_40 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v59 : BitVec 32 := Scalar.muli v5 c4_i32_41
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v61 : BitVec 32 := Scalar.muli v8 c1_i32_42
  let v62 : BitVec 32 := Scalar.addi v60 v61
  v62.toNat
def k0_dev6 (d0 : Dev nD) : Nat :=
  let c0_i32_48 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_47 : BitVec 32 := 8#32
  let v69 : BitVec 32 := Scalar.muli v9 c8_i32_47
  let v70 : BitVec 32 := Scalar.addi c0_i32_48 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v71 : BitVec 32 := Scalar.muli v5 c4_i32_49
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v73 : BitVec 32 := Scalar.muli v8 c1_i32_50
  let v74 : BitVec 32 := Scalar.addi v72 v73
  v74.toNat
def k0_off2 (d0 : Dev nD) (c0_i32_68 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v94 : BitVec 32 := Scalar.addi v11 c0_i32_68
  let v95 : Index := Scalar.indexCast v94
  let c0_69 : Index := 0#32
  ![v95.toNat, 0]
def k0_off3 (d0 : Dev nD) (c0_i32_70 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v11 : BitVec 32 := Scalar.muli v5 c256_i32
  let v97 : BitVec 32 := Scalar.addi v11 c0_i32_70
  let c0_i32_77 : BitVec 32 := 0#32
  ![v97.toNat, 0]
def k0_dev7 (d0 : Dev nD) : Nat :=
  let c0_i32_74 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_73 : BitVec 32 := 8#32
  let v98 : BitVec 32 := Scalar.muli v2 c8_i32_73
  let v99 : BitVec 32 := Scalar.addi c0_i32_74 v98
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_75 : BitVec 32 := 4#32
  let v100 : BitVec 32 := Scalar.muli v10 c4_i32_75
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v102 : BitVec 32 := Scalar.muli v8 c1_i32_76
  let v103 : BitVec 32 := Scalar.addi v101 v102
  v103.toNat
def k0_dev8 (d0 : Dev nD) : Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_97 : BitVec 32 := 8#32
  let v127 : BitVec 32 := Scalar.muli v2 c8_i32_97
  let v128 : BitVec 32 := Scalar.addi c0_i32_98 v127
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_99 : BitVec 32 := 4#32
  let v129 : BitVec 32 := Scalar.muli v10 c4_i32_99
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v131 : BitVec 32 := Scalar.muli v8 c1_i32_100
  let v132 : BitVec 32 := Scalar.addi v130 v131
  v132.toNat
def k0_dev9 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v156 : BitVec 32 := Scalar.muli v2 c8_i32_121
  let v157 : BitVec 32 := Scalar.addi c0_i32_122 v156
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_123 : BitVec 32 := 4#32
  let v158 : BitVec 32 := Scalar.muli v10 c4_i32_123
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_124 : BitVec 32 := 1#32
  let v160 : BitVec 32 := Scalar.muli v8 c1_i32_124
  let v161 : BitVec 32 := Scalar.addi v159 v160
  v161.toNat
def k0_dev10 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v185 : BitVec 32 := Scalar.muli v2 c8_i32_145
  let v186 : BitVec 32 := Scalar.addi c0_i32_146 v185
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_147 : BitVec 32 := 4#32
  let v187 : BitVec 32 := Scalar.muli v10 c4_i32_147
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v189 : BitVec 32 := Scalar.muli v8 c1_i32_148
  let v190 : BitVec 32 := Scalar.addi v188 v189
  v190.toNat
def k0_off4 (d0 : Dev nD) (c0_i32_151 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c256_i32_5 : BitVec 32 := 256#32
  let v13 : BitVec 32 := Scalar.muli v12 c256_i32_5
  let v197 : BitVec 32 := Scalar.addi v13 c0_i32_151
  let c0_i32_158 : BitVec 32 := 0#32
  ![v197.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S2x512x512 : Shape := ⟨3, ![2, 512, 512]⟩
abbrev S_ : Shape := ⟨0, ![]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S2x512x512, .bf16⟩
  | .hbm, ⟨2, _⟩ => ⟨S2x512x512, .f32⟩
  | .hbm, ⟨3, _⟩ => ⟨S_, .f32⟩
  | .hbm, ⟨4, _⟩ => ⟨S512x512, .f32⟩
  | .hbm, ⟨5, _⟩ => ⟨S512x512, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Mesh.lean ====
/- The two neighbours of a device, the kernel's buffers, semaphores and index sets, and the contents every buffer
   holds along the run.

   Sixteen devices stand on a 2 x 2 x 4 grid, device `8 x + 4 y + z` at (x, y, z). Each device holds one 512 x 512
   block; it adds its half number `y` of that block to the same half of the block of the device across `x`, and the
   two halves of the sum are then exchanged across `y`. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.HalfSum

open Cert.KernelIdeal Cert.KernelIdeal.Gen
open Idealize.ShloMosaic
open Idealize.ShloMosaic.TcCoe
open Idealize.SL Idealize.SL.Sem

variable {F : FTy → Type} [FloatOps F]

/-! ## Neighbours -/

/-- The device across the first mesh axis. -/
noncomputable def xp (c : Dev nD) : Dev nD := ⟨(4 * ((c.val / 4) % 2) + (c.val % 4) + 8) - 8 * (c.val / 8), by have h : c.val < 16 := c.isLt; show _ < 16; omega⟩
/-- The device across the second mesh axis. -/
noncomputable def yp (c : Dev nD) : Dev nD := ⟨(8 * (c.val / 8) + (c.val % 4) + 4) - 4 * ((c.val / 4) % 2), by have h : c.val < 16 := c.isLt; show _ < 16; omega⟩
/-- A device's coordinate on the second mesh axis: the number of the half it sums. -/
noncomputable def yy (c : Dev nD) : ℕ := (c.val / 4) % 2

theorem yy_lt (c : Dev nD) : yy c < 2 := by unfold yy; omega
theorem xp_xp (c : Dev nD) : xp (xp c) = c := by revert c; decide
theorem yp_yp (c : Dev nD) : yp (yp c) = c := by revert c; decide
theorem yy_xp (c : Dev nD) : yy (xp c) = yy c := by revert c; decide
theorem yy_yp (c : Dev nD) : yy (yp c) = 1 - yy c := by revert c; decide
theorem xp_ne_yp (c : Dev nD) : xp c ≠ yp c := by revert c; decide

/-- The exchange across the first axis, as a permutation of the devices. -/
noncomputable def xSwap : Dev nD ≃ Dev nD := ⟨xp, xp, xp_xp, xp_xp⟩
/-- The exchange across the second axis, as a permutation of the devices. -/
noncomputable def ySwap : Dev nD ≃ Dev nD := ⟨yp, yp, yp_yp, yp_yp⟩

/-! ## Buffers and semaphores -/

/-- The staged block. -/
abbrev xM : Memref sig .tc .vmem S512x512 .bf16 := Memref.whole cc0_stg0_0
/-- The staged result. -/
abbrev oM : Memref sig .tc .vmem S512x512 .bf16 := Memref.whole cc0_stg1_0
/-- The half to be sent. -/
abbrev sM : Memref sig .tc .vmem S256x512 .bf16 := Memref.whole cc0_scratch0
/-- The half received. -/
abbrev rM : Memref sig .tc .vmem S256x512 .bf16 := Memref.whole cc0_scratch1

/-- The barrier semaphore. -/
abbrev barS : Sem sig := (SemArray.scalar (sig.barrier 0 rfl) : Sems sig S_).sem

/-- The kernel's sixteen DMA semaphores; four of each kind: 0 a half's chunk sent, 1 received, 2 a sum's chunk sent,
    3 received. -/
abbrev osem : Fin 16 → SemLoc sig := fun i => .dma (⟨i.val + 2, by omega⟩ : Fin 18)
/-- All seventeen semaphores of the protocol: number 0 the barrier, the others the DMA semaphores in order. -/
noncomputable def csem (i : Fin 17) : SemLoc sig := if h : i.val = 0 then .reg barS else .dma (⟨i.val + 1, by omega⟩ : Fin 18)
/-- The semaphore of kind `j` for chunk `k`. -/
noncomputable def dq (j k : Fin 4) : DmaSem sig := (⟨4 * j.val + k.val + 2, by omega⟩ : Fin 18)
/-- Its number among the seventeen. -/
noncomputable def ci (j k : Fin 4) : Fin 17 := ⟨4 * j.val + k.val + 1, by omega⟩
/-- A semaphore of a device's TensorCore. -/
abbrev kcell (p : Dev nD × Fin 17) : GSem nD τ sig := ((p.1 : Thread nD τ), csem p.2)

/-- The barrier semaphore of a device. -/
abbrev barCell (c : Dev nD) : GSem nD τ sig := ((c : Thread nD τ), .reg barS)

theorem csem_zero : csem 0 = .reg barS := rfl
theorem csem_ci (j k : Fin 4) : csem (ci j k) = .dma (dq j k) := by
  unfold csem ci dq
  rw [dif_neg (by simp)]
theorem csem_succ (i : Fin 16) : csem i.succ = osem i := by
  unfold csem
  rw [dif_neg (by simp)]
  rfl

theorem sem_xs0 : ((cc0_scratch2.slice (Rect.unit (s := S4) ![0] S1.size inb_S4_S1_0)).squeeze S_ squeezes_S1_S_).sem = dq 0 0 := rfl
theorem sem_xs1 : ((cc0_scratch2.slice (Rect.unit (s := S4) ![1] S1.size inb_S4_S1_1)).squeeze S_ squeezes_S1_S_).sem = dq 0 1 := rfl
theorem sem_xs2 : ((cc0_scratch2.slice (Rect.unit (s := S4) ![2] S1.size inb_S4_S1_2)).squeeze S_ squeezes_S1_S_).sem = dq 0 2 := rfl
theorem sem_xs3 : ((cc0_scratch2.slice (Rect.unit (s := S4) ![3] S1.size inb_S4_S1_3)).squeeze S_ squeezes_S1_S_).sem = dq 0 3 := rfl
theorem sem_xr0 : ((cc0_scratch3.slice (Rect.unit (s := S4) ![0] S1.size inb_S4_S1_0)).squeeze S_ squeezes_S1_S_).sem = dq 1 0 := rfl
theorem sem_xr1 : ((cc0_scratch3.slice (Rect.unit (s := S4) ![1] S1.size inb_S4_S1_1)).squeeze S_ squeezes_S1_S_).sem = dq 1 1 := rfl
theorem sem_xr2 : ((cc0_scratch3.slice (Rect.unit (s := S4) ![2] S1.size inb_S4_S1_2)).squeeze S_ squeezes_S1_S_).sem = dq 1 2 := rfl
theorem sem_xr3 : ((cc0_scratch3.slice (Rect.unit (s := S4) ![3] S1.size inb_S4_S1_3)).squeeze S_ squeezes_S1_S_).sem = dq 1 3 := rfl
theorem sem_ys0 : ((cc0_scratch4.slice (Rect.unit (s := S4) ![0] S1.size inb_S4_S1_0)).squeeze S_ squeezes_S1_S_).sem = dq 2 0 := rfl
theorem sem_ys1 : ((cc0_scratch4.slice (Rect.unit (s := S4) ![1] S1.size inb_S4_S1_1)).squeeze S_ squeezes_S1_S_).sem = dq 2 1 := rfl
theorem sem_ys2 : ((cc0_scratch4.slice (Rect.unit (s := S4) ![2] S1.size inb_S4_S1_2)).squeeze S_ squeezes_S1_S_).sem = dq 2 2 := rfl
theorem sem_ys3 : ((cc0_scratch4.slice (Rect.unit (s := S4) ![3] S1.size inb_S4_S1_3)).squeeze S_ squeezes_S1_S_).sem = dq 2 3 := rfl
theorem sem_yr0 : ((cc0_scratch5.slice (Rect.unit (s := S4) ![0] S1.size inb_S4_S1_0)).squeeze S_ squeezes_S1_S_).sem = dq 3 0 := rfl
theorem sem_yr1 : ((cc0_scratch5.slice (Rect.unit (s := S4) ![1] S1.size inb_S4_S1_1)).squeeze S_ squeezes_S1_S_).sem = dq 3 1 := rfl
theorem sem_yr2 : ((cc0_scratch5.slice (Rect.unit (s := S4) ![2] S1.size inb_S4_S1_2)).squeeze S_ squeezes_S1_S_).sem = dq 3 2 := rfl
theorem sem_yr3 : ((cc0_scratch5.slice (Rect.unit (s := S4) ![3] S1.size inb_S4_S1_3)).squeeze S_ squeezes_S1_S_).sem = dq 3 3 := rfl

/-! ## Chunks: index sets and slices -/

/-- Rows `64 k` to `64 k + 63` of a half. -/
@[irreducible] noncomputable def ck (k : ℕ) : Finset S256x512.Idx := Finset.univ.filter fun i => (i 0).val / 64 = k
/-- Rows `64 j` to `64 j + 63` of a block. -/
@[irreducible] noncomputable def ob (j : ℕ) : Finset S512x512.Idx := Finset.univ.filter fun i => (i 0).val / 64 = j

theorem mem_ck {k : ℕ} {i : S256x512.Idx} : i ∈ ck k ↔ (i 0).val / 64 = k := by unfold ck; simp
theorem mem_ob {j : ℕ} {i : S512x512.Idx} : i ∈ ob j ↔ (i 0).val / 64 = j := by unfold ob; simp

/-- A slice of 64 rows of a half at row `64 k` is chunk `k`. -/
theorem rect_ck {off : Fin S256x512.rank → ℕ} {hb : ∀ a, off a + S64x512.size a ≤ S256x512.size a} {k : ℕ} (h : off = ![64 * k, 0]) :
    (Rect.unit (s := S256x512) off S64x512.size hb).set = ck k := by
  subst h
  ext i
  rw [Rect.mem_set_unit, mem_ck]
  constructor
  · intro h
    have h0 := h 0
    have e : S64x512.size 0 = 64 := rfl
    simp only [Matrix.cons_val_zero, e] at h0
    omega
  · intro h a
    match a with
    | 0 =>
      have e : S64x512.size 0 = 64 := rfl
      show 64 * k ≤ (i 0).val ∧ (i 0).val < 64 * k + 64
      omega
    | 1 => exact ⟨Nat.zero_le _, by show (i 1).val < 0 + 512; have := (i 1).isLt; have e : S256x512.size 1 = 512 := rfl; omega⟩

/-- A slice of 64 rows of a block at row `64 j` is chunk `j`. -/
theorem rect_ob {off : Fin S512x512.rank → ℕ} {hb : ∀ a, off a + S64x512.size a ≤ S512x512.size a} {j : ℕ} (h : off = ![64 * j, 0]) :
    (Rect.unit (s := S512x512) off S64x512.size hb).set = ob j := by
  subst h
  ext i
  rw [Rect.mem_set_unit, mem_ob]
  constructor
  · intro h
    have h0 := h 0
    have e : S64x512.size 0 = 64 := rfl
    simp only [Matrix.cons_val_zero, e] at h0
    omega
  · intro h a
    match a with
    | 0 =>
      have e : S64x512.size 0 = 64 := rfl
      show 64 * j ≤ (i 0).val ∧ (i 0).val < 64 * j + 64
      omega
    | 1 => exact ⟨Nat.zero_le _, by show (i 1).val < 0 + 512; have := (i 1).isLt; have e : S512x512.size 1 = 512 := rfl; omega⟩

/-- The credit one chunk's transfer pays. -/
noncomputable def N : ℕ := (rM.slice (Rect.unit (s := S256x512) ![0, 0] S64x512.size inb_S256x512_S64x512_0_0) (fun _ => rfl)).view.dmaCredit
theorem N_pos : 0 < N := View.dmaCredit_pos _ (by decide)

theorem credit_s {off : Fin S256x512.rank → ℕ} {hb : ∀ a, off a + S64x512.size a ≤ S256x512.size a} :
    (sM.slice (Rect.unit (s := S256x512) off S64x512.size hb) (fun _ => rfl)).view.dmaCredit = N := rfl
theorem credit_r {off : Fin S256x512.rank → ℕ} {hb : ∀ a, off a + S64x512.size a ≤ S256x512.size a} :
    (rM.slice (Rect.unit (s := S256x512) off S64x512.size hb) (fun _ => rfl)).view.dmaCredit = N := rfl
theorem credit_o {off : Fin S512x512.rank → ℕ} {hb : ∀ a, off a + S64x512.size a ≤ S512x512.size a} :
    (oM.slice (Rect.unit (s := S512x512) off S64x512.size hb) (fun _ => rfl)).view.dmaCredit = N := rfl

/-! ## Contents -/

variable (m : (ℓ : Loc nD τ sig) → Buf (Elt F) ℓ) (ρ : Dev nD → PrngReg)

/-- The memory at launch: any contents, every counter zero. -/
noncomputable def s₀ : MemSt nD τ sig (Elt F) := ⟨m, fun _ => 0, ρ⟩

/-- The block staged at device `c`. -/
noncomputable def xstg (c : Dev nD) : (cc0_stg0_0 : Ref sig .tc).ty.Contents (Elt F) :=
  (win0_0.blk (0 : Fin 1)).view.read (Elt F) ((s₀ m ρ).mem ((c : Thread nD τ).loc main_arg0))

/-- The half of its block that device `c` copies out: 256 rows from row `256 y`. -/
noncomputable def xsV (c : Dev nD) : (cc0_scratch0 : Ref sig .tc).ty.Contents (Elt F) :=
  xM.view.readAt (Elt F) (Rect.unit (s := S512x512) (k0_off1 c) S256x512.size (k0_off1_inb c)).toLoadRect (xstg m ρ c)

/-- An index of a block, within its half. -/
noncomputable def inHalf (i : S512x512.Idx) : S256x512.Idx := fun a => ⟨(i a).val % S256x512.size a, Nat.mod_lt _ (by revert a; decide)⟩

/-- The device of the pair `c`, `yp c` that sums the half `i` lies in. -/
noncomputable def halfDev (c : Dev nD) (i : S512x512.Idx) : Dev nD := if (i 0).val / 256 = yy c then c else yp c

/-- The result at device `c`: in each half the sum of the two copies of it, made at the device of that half. -/
noncomputable def outV (c : Dev nD) : (cc0_stg1_0 : Ref sig .tc).ty.Contents (Elt F) := fun i =>
  (FloatOps.addf (F := F) (φ := .bf16) (xsV m ρ (halfDev c i) (inHalf i)) (xsV m ρ (xp (halfDev c i)) (inHalf i)))

theorem halfDev_yp (c : Dev nD) (i : S512x512.Idx) : halfDev (yp c) i = halfDev c i := by
  unfold halfDev
  have hi : (i 0).val < 512 := (i 0).isLt
  have := yy_lt c
  rw [yy_yp, yp_yp]
  split <;> split <;> first | rfl | omega

/-- The two devices across the second axis end with the same result. -/
theorem outV_yp (c : Dev nD) : outV m ρ (yp c) = outV m ρ c := by
  funext i
  unfold outV
  rw [halfDev_yp]

/-- A sent chunk lands as it was. -/
theorem land_x {off : Fin S256x512.rank → ℕ} {hb : ∀ a, off a + S64x512.size a ≤ S256x512.size a} {k : ℕ} (h : off = ![64 * k, 0])
    (fd : (cc0_scratch1 : Ref sig .tc).ty.Contents (Elt F)) (fs : (cc0_scratch0 : Ref sig .tc).ty.Contents (Elt F)) :
    ∀ i ∈ ck k, (rM.slice (Rect.unit (s := S256x512) off S64x512.size hb) (fun _ => rfl)).view.write (Elt F) fd
      ((sM.slice (Rect.unit (s := S256x512) off S64x512.size hb) (fun _ => rfl)).view.read (Elt F) fs) Finset.univ i = fs i := by
  intro i hi
  rw [← rect_ck (hb := hb) h] at hi
  rw [← View.set_slice_whole cc0_scratch1 (Rect.unit (s := S256x512) off S64x512.size hb)] at hi
  obtain ⟨j, -, rfl⟩ := Finset.mem_map.mp hi
  exact View.write_emb_of_mem _ _ (Finset.mem_univ j)

/-- A sent chunk of the sum lands as it was. -/
theorem land_y {off : Fin S512x512.rank → ℕ} {hb : ∀ a, off a + S64x512.size a ≤ S512x512.size a} {j : ℕ} (h : off = ![64 * j, 0])
    (fd fs : (cc0_stg1_0 : Ref sig .tc).ty.Contents (Elt F)) :
    ∀ i ∈ ob j, (oM.slice (Rect.unit (s := S512x512) off S64x512.size hb) (fun _ => rfl)).view.write (Elt F) fd
      ((oM.slice (Rect.unit (s := S512x512) off S64x512.size hb) (fun _ => rfl)).view.read (Elt F) fs) Finset.univ i = fs i := by
  intro i hi
  rw [← rect_ob (hb := hb) h] at hi
  rw [← View.set_slice_whole cc0_stg1_0 (Rect.unit (s := S512x512) off S64x512.size hb)] at hi
  obtain ⟨j, -, rfl⟩ := Finset.mem_map.mp hi
  exact View.write_emb_of_mem _ _ (Finset.mem_univ j)

/-- Storing the sum of the two chunks read writes the result's rows. -/
theorem land_sum (c : Dev nD) (k : Fin 4) {off : Fin S256x512.rank → ℕ} {hb : ∀ a, off a + S64x512.size a ≤ S256x512.size a}
    (h : off = ![64 * k.val, 0])
    {off' : Fin S512x512.rank → ℕ} {hb' : ∀ a, off' a + S64x512.size a ≤ S512x512.size a} (h' : off' = ![256 * yy c + 64 * k.val, 0])
    (f : (cc0_stg1_0 : Ref sig .tc).ty.Contents (Elt F)) :
    ∀ i ∈ ob (4 * yy c + k.val), (oM.access (Rect.unit (s := S512x512) off' S64x512.size hb')).write (Elt F) f
      (addf (F := F) (s := S64x512) (φ := .bf16)
        (sM.view.readAt (Elt F) (Rect.unit (s := S256x512) off S64x512.size hb).toLoadRect (xsV m ρ c))
        (rM.view.readAt (Elt F) (Rect.unit (s := S256x512) off S64x512.size hb).toLoadRect (xsV m ρ (xp c)))) Finset.univ i = outV m ρ c i := by
  intro i hi
  have hr : off' = ![64 * (4 * yy c + k.val), 0] := by rw [h']; congr 1; omega
  have hi' := hi
  rw [← rect_ob (hb := hb') hr] at hi
  rw [← View.set_slice_whole cc0_stg1_0 (Rect.unit (s := S512x512) off' S64x512.size hb')] at hi
  obtain ⟨j, -, rfl⟩ := Finset.mem_map.mp hi
  refine (View.write_emb_of_mem _ _ (Finset.mem_univ j)).trans ?_
  generalize hI : ((View.whole cc0_stg1_0).slice (Rect.unit (s := S512x512) off' S64x512.size hb')).emb j = I at hi' ⊢
  have hv : ∀ a, (I a).val = off' a + (j a).val := by
    intro a
    rw [← hI]
    exact (Rect.emb_apply _ j a).trans (by rw [Rect.stride_unit, Nat.one_mul]; rfl)
  have hd : halfDev c I = c := by
    unfold halfDev
    rw [if_pos]
    have := mem_ob.mp hi'
    have := k.isLt
    omega
  have hloc : inHalf I = (Rect.unit (s := S256x512) off S64x512.size hb).emb j := by
    funext a
    refine Fin.ext ?_
    rw [Rect.emb_apply, Rect.off_unit, Rect.stride_unit, Nat.one_mul]
    show (I a).val % S256x512.size a = _
    rw [hv a]
    have ea : off a = (![64 * k.val, 0] : Fin 2 → ℕ) a := congrFun h a
    have ea' : off' a = (![256 * yy c + 64 * k.val, 0] : Fin 2 → ℕ) a := congrFun h' a
    show (off' a + (j a).val) % S256x512.size a = off a + (j a).val
    rw [ea, ea']
    match a, j with
    | 0, j =>
      have e : (j 0).val < 64 := (j 0).isLt
      have := k.isLt
      show (256 * yy c + 64 * k.val + (j 0).val) % 256 = 64 * k.val + (j 0).val
      omega
    | 1, j =>
      have e : (j 1).val < 512 := (j 1).isLt
      show (0 + (j 1).val) % 512 = 0 + (j 1).val
      omega
  unfold outV
  rw [hd, hloc]
  rfl

end Cert.HalfSum

end
-- ==== Proof.Protocol.lean ====
/- The protocol: what each semaphore counts, and what each landing hands over.

   The barrier semaphore of a device is raised by its two neighbours, one unit each: the neighbour across `x` hands
   over its receive buffer, the neighbour across `y` the rows of its result that this device is to fill. A send
   semaphore hands back the chunk that was sent, a receive semaphore the chunk that has landed. Every semaphore has
   the one round 0. -/
module

public import proofs.«01_k».proof.Proof.Mesh

@[expose] public section

noncomputable section

namespace Cert.HalfSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's rounds and the kernel's -/

abbrev UB : Type := URounds (GSem nD τ sig) Bool
abbrev UU : Type := UR sig nD τ × UB

local notation "𝕄" => MT nD τ sig Unit (Elt F) ℕ UU ℕ

/-- The staging pipeline's part of the algebra. -/
abbrev EP : Emb (UR sig nD τ) (MT nD τ sig Unit (Elt F) ℕ UU ℕ) := embL
/-- The kernel's part of the algebra. -/
abbrev ER : Emb UB (MT nD τ sig Unit (Elt F) ℕ UU ℕ) := embR

variable (m : (ℓ : Loc nD τ sig) → Buf (Elt F) ℓ) (ρ : Dev nD → PrngReg)

/-! ## The chunks, owned -/

/-- Chunk `k` of the send buffer of `c`, at share `q`, holding `f` there. -/
noncomputable def sPts (c : Dev nD) (k : ℕ) (q : PosShare TreeShare) (f : (cc0_scratch0 : Ref sig .tc).ty.Contents (Elt F)) : sProp 𝕄 :=
  (c : Thread nD τ).loc cc0_scratch0 ↦[ck k]{q} f
/-- Chunk `k` of the receive buffer of `c`, holding `f` there. -/
noncomputable def rPts (c : Dev nD) (k : ℕ) (f : (cc0_scratch1 : Ref sig .tc).ty.Contents (Elt F)) : sProp 𝕄 :=
  (c : Thread nD τ).loc cc0_scratch1 ↦[ck k]{fullShare} f
/-- Chunk `j` of the result of `c`, holding `f` there. -/
noncomputable def oPts (c : Dev nD) (j : ℕ) (f : (cc0_stg1_0 : Ref sig .tc).ty.Contents (Elt F)) : sProp 𝕄 :=
  (c : Thread nD τ).loc cc0_stg1_0 ↦[ob j]{fullShare} f

instance sPts_storable (c : Dev nD) (k : ℕ) (q) (f) : BI.Storable (upEmb : UEmb _ 𝕄) (sPts (F := F) c k q f) := by unfold sPts; infer_instance
instance rPts_storable (c : Dev nD) (k : ℕ) (f) : BI.Storable (upEmb : UEmb _ 𝕄) (rPts (F := F) c k f) := by unfold rPts; infer_instance
instance oPts_storable (c : Dev nD) (k : ℕ) (f) : BI.Storable (upEmb : UEmb _ 𝕄) (oPts (F := F) c k f) := by unfold oPts; infer_instance

/-! ## The schedule -/

/-- What the neighbour across `x` hands to `c` at the barrier: its receive buffer, chunk by chunk, whatever it holds. -/
noncomputable def barX (c : Dev nD) : sProp 𝕄 :=
  iprop(∃ f, rPts (xp c) 0 f ∗ rPts (xp c) 1 f ∗ rPts (xp c) 2 f ∗ rPts (xp c) 3 f)
/-- What the neighbour across `y` hands to `c` at the barrier: the rows of its result in the half that `c` sums. -/
noncomputable def barY (c : Dev nD) : sProp 𝕄 :=
  iprop(∃ f, oPts (yp c) (4 * yy c + 0) f ∗ oPts (yp c) (4 * yy c + 1) f ∗ oPts (yp c) (4 * yy c + 2) f ∗ oPts (yp c) (4 * yy c + 3) f)

/-- What the DMA semaphore of kind `j` for chunk `k` hands to its device `c`: of a send of the half, the left share of
    the chunk sent; of a receive of the half, the chunk of the neighbour's half; of a send of the sum, the chunk
    sent; of a receive of the sum, the chunk of the other half. -/
noncomputable def dpay (c : Dev nD) (j k : ℕ) : sProp 𝕄 :=
  if j = 0 then sPts c k fullShare.left (xsV m ρ c)
  else if j = 1 then rPts c k (xsV m ρ (xp c))
  else if j = 2 then oPts c (4 * yy c + k) (outV m ρ c)
  else oPts c (4 * (1 - yy c) + k) (outV m ρ c)

/-- What duty `d` of a semaphore of `c` hands over. -/
noncomputable def pay (c : Dev nD) (s : SemLoc sig) (d : Bool) : sProp 𝕄 :=
  match s with
  | .reg _ => if d then barX c else barY c
  | .dma q => dpay m ρ c ((q.val - 2) / 4) ((q.val - 2) % 4)

instance pay_storable (c : Dev nD) (s : SemLoc sig) (d : Bool) : BI.Storable (upEmb : UEmb _ 𝕄) (pay (F := F) m ρ c s d) := by
  cases s <;> simp only [pay, dpay, barX, barY] <;> (repeat' split) <;> infer_instance

/-- The duties of a semaphore: two of the barrier, one of a transfer's. -/
def duty (s : SemLoc sig) : Finset Bool :=
  match s with
  | .reg _ => Finset.univ
  | .dma _ => {false}
/-- The amount of each duty of a semaphore: one unit at the barrier, a chunk's credit at a transfer's. -/
noncomputable def amt (s : SemLoc sig) : ℕ :=
  match s with
  | .reg _ => 1
  | .dma _ => N

theorem amt_pos (s : SemLoc sig) : 0 < amt s := by
  cases s
  · exact Nat.one_pos
  · exact N_pos

/-- The schedule of all semaphores. -/
noncomputable def Rd : Rounds.Schedule (GSem nD τ sig) Bool 𝕄 where
  duties g r := if r = 0 then duty g.2 else ∅
  unitless _ := False
  amount g _ _ := amt g.2
  payload g _ d := pay m ρ g.1.1 g.2 d
  amount_pos g _ _ _ := amt_pos g.2

instance Rd_payload_storable (g : GSem nD τ sig) (r : ℕ) (d : Bool) :
    BI.Storable (upEmb : UEmb _ 𝕄) ((Rd (F := F) m ρ).payload g r d) := pay_storable m ρ g.1.1 g.2 d

section Sched
variable (c : Dev nD)

theorem duties_zero (g : GSem nD τ sig) : (Rd (F := F) m ρ).duties g 0 = duty g.2 := by dsimp only [Rd]; exact if_pos rfl
theorem duties_later (g : GSem nD τ sig) : ∀ r, 1 ≤ r → (Rd (F := F) m ρ).duties g r = ∅ := fun r hr => by dsimp only [Rd]; exact if_neg (by omega)
theorem mem_bar (d : Bool) : d ∈ (Rd (F := F) m ρ).duties (barCell c) 0 := by rw [duties_zero]; exact Finset.mem_univ d
theorem mem_dma (q : DmaSem sig) : false ∈ (Rd (F := F) m ρ).duties ((c : Thread nD τ), .dma q) 0 := by
  rw [duties_zero]; exact Finset.mem_singleton_self _

theorem expect_bar : (Rd (F := F) m ρ).expect (barCell c) 0 = 2 := by
  unfold Schedule.expect Schedule.amountOf
  rw [duties_zero]
  rfl
theorem expect_dma (q : DmaSem sig) : (Rd (F := F) m ρ).expect ((c : Thread nD τ), .dma q) 0 = N := by
  unfold Schedule.expect Schedule.amountOf
  rw [duties_zero]
  exact Finset.sum_singleton _ _

/-- The payload of the semaphore of kind `j` for chunk `k`. -/
theorem pay_dq (j k : Fin 4) (d : Bool) : pay (F := F) m ρ c (.dma (dq j k)) d = dpay m ρ c j.val k.val := by
  have h1 : ((dq j k).val - 2) / 4 = j.val := by show (4 * j.val + k.val + 2 - 2) / 4 = _; omega
  have h2 : ((dq j k).val - 2) % 4 = k.val := by show (4 * j.val + k.val + 2 - 2) % 4 = _; omega
  show dpay m ρ c _ _ = _
  rw [h1, h2]

/-- What the wait at a transfer's semaphore hands over. -/
theorem rest_dma (j k : Fin 4) : bigSep ((Rd (F := F) m ρ).duties ((c : Thread nD τ), .dma (dq j k)) 0 \ ∅)
    (fun d => (Rd (F := F) m ρ).payload ((c : Thread nD τ), .dma (dq j k)) 0 d) = dpay m ρ c j.val k.val := by
  rw [Finset.sdiff_empty, duties_zero]
  show bigSep {false} _ = _
  rw [bigSep_singleton]
  exact pay_dq m ρ c j k false

/-- What the wait at the barrier hands over. -/
theorem rest_bar : bigSep ((Rd (F := F) m ρ).duties (barCell c) 0 \ ∅)
    (fun d => (Rd (F := F) m ρ).payload (barCell c) 0 d) = iprop(barX c ∗ barY c) := by
  rw [Finset.sdiff_empty, duties_zero]
  show bigSep (Finset.univ : Finset Bool) _ = _
  rw [bigSep_univ_eq_bigSepL [true, false] (by decide) (by decide), bigSepL_cons_cons, bigSepL_singleton]
  rfl

theorem dpay_0 (k : ℕ) : dpay (F := F) m ρ c 0 k = sPts c k fullShare.left (xsV m ρ c) := rfl
theorem dpay_1 (k : ℕ) : dpay (F := F) m ρ c 1 k = rPts c k (xsV m ρ (xp c)) := rfl
theorem dpay_2 (k : ℕ) : dpay (F := F) m ρ c 2 k = oPts c (4 * yy c + k) (outV m ρ c) := rfl
theorem dpay_3 (k : ℕ) : dpay (F := F) m ρ c 3 k = oPts c (4 * (1 - yy c) + k) (outV m ρ c) := rfl

end Sched

/-! ## What each device owes, and the levels of the waits -/

/-- The sums of chunks `n` and on, still to be sent across `y`. -/
noncomputable def oweY (c : Dev nD) (n : ℕ) : CellTallies nD τ sig Unit :=
  ∑ k : Fin 4, if n ≤ k.val then tallyAt ((yp c : Thread nD τ), .dma (dq 3 k)) () N else 0
/-- The chunks `n` and on of the half, still to be sent across `x`, and all sums. -/
noncomputable def oweX (c : Dev nD) (n : ℕ) : CellTallies nD τ sig Unit :=
  oweY c 0 + ∑ k : Fin 4, if n ≤ k.val then tallyAt ((xp c : Thread nD τ), .dma (dq 1 k)) () N else 0
/-- After the first barrier signal. -/
noncomputable def oweB (c : Dev nD) : CellTallies nD τ sig Unit := oweX c 0 + tallyAt (barCell (yp c)) () 1
/-- At launch. -/
noncomputable def O₀ (c : Dev nD) : CellTallies nD τ sig Unit := oweB c + tallyAt (barCell (xp c)) () 1

theorem sum_from {A : Type} [AddCommMonoid A] (f : Fin 4 → A) (k : Fin 4) :
    (∑ j : Fin 4, if k.val ≤ j.val then f j else 0) = (∑ j : Fin 4, if k.val + 1 ≤ j.val then f j else 0) + f k := by
  rw [Fin.sum_univ_four, Fin.sum_univ_four]
  fin_cases k <;> simp [add_comm, add_left_comm, add_assoc]

theorem oweY_step (c : Dev nD) (k : Fin 4) : oweY c k.val = oweY c (k.val + 1) + tallyAt ((yp c : Thread nD τ), .dma (dq 3 k)) () N :=
  sum_from _ k
theorem oweX_step (c : Dev nD) (k : Fin 4) : oweX c k.val = oweX c (k.val + 1) + tallyAt ((xp c : Thread nD τ), .dma (dq 1 k)) () N := by
  unfold oweX; rw [add_assoc]; congr 1; exact sum_from _ k
theorem oweY_four (c : Dev nD) : oweY c 4 = 0 := Finset.sum_eq_zero fun k _ => if_neg (by omega)
theorem oweX_four (c : Dev nD) : oweX c 4 = oweY c 0 := by
  unfold oweX; rw [Finset.sum_eq_zero fun k _ => if_neg (by omega), add_zero]

/-- Credits are counted at the TensorCores. -/
def L (g : GSem nD τ sig) : Finset Unit := if g.1.2 = .tc then {()} else ∅
/-- The barrier at 1, the receives of the half at 2, the receives of the sum at 3, all others at 0. -/
def lv (g : GSem nD τ sig) (_ : Unit) : ℕ :=
  match g.2 with
  | .reg _ => 1
  | .dma q => if 6 ≤ q.val ∧ q.val < 10 then 2 else if 14 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (k : Fin 4) : lv ((c : Thread nD τ), .dma (dq 1 k)) () = 2 :=
  if_pos (by show 6 ≤ 4 * 1 + k.val + 2 ∧ 4 * 1 + k.val + 2 < 10; omega)
theorem lv_y (c : Dev nD) (k : Fin 4) : lv ((c : Thread nD τ), .dma (dq 3 k)) () = 3 :=
  (if_neg (by show ¬ (6 ≤ 4 * 3 + k.val + 2 ∧ 4 * 3 + k.val + 2 < 10); omega)).trans
    (if_pos (by show 14 ≤ 4 * 3 + k.val + 2; omega))

theorem tally_pos {g g' : GSem nD τ sig} {u : Unit} {n : ℕ} (h : 0 < tallyAt g () n g' u) : g' = g := by
  by_contra hn
  rw [tallyAt_apply, if_neg (fun e => hn e.1)] at h
  exact Nat.lt_irrefl 0 h

theorem sum_pos {f : Fin 4 → GSem nD τ sig} {n r : ℕ} {g : GSem nD τ sig} {u : Unit}
    (h : 0 < (∑ k : Fin 4, if n ≤ k.val then tallyAt (f k) () r else 0 : CellTallies nD τ sig Unit) g u) : ∃ k, g = f k := by
  obtain ⟨k, -, hk⟩ := Pipeline.sum_pos_exists h
  refine ⟨k, ?_⟩
  by_cases hn : n ≤ k.val
  · rw [if_pos hn] at hk; exact tally_pos hk
  · rw [if_neg hn] at hk; exact absurd hk (Nat.lt_irrefl 0)

theorem oweY_pos {c : Dev nD} {n : ℕ} {g : GSem nD τ sig} {u : Unit} (h : 0 < oweY c n g u) :
    ∃ k, g = ((yp c : Thread nD τ), .dma (dq 3 k)) := sum_pos h

theorem oweX_pos {c : Dev nD} {n : ℕ} {g : GSem nD τ sig} {u : Unit} (h : 0 < oweX c n g u) : u ∈ L g ∧ 2 ≤ lv g u := by
  rcases Pipeline.add_pos_cases h with h | h
  · obtain ⟨k, rfl⟩ := oweY_pos h
    exact ⟨by rw [L_tc]; exact Finset.mem_singleton_self _, (lv_y _ k).symm ▸ (by decide : 2 ≤ 3)⟩
  · obtain ⟨k, rfl⟩ := sum_pos (f := fun k => ((xp c : Thread nD τ), .dma (dq 1 k))) h
    exact ⟨by rw [L_tc]; exact Finset.mem_singleton_self _, (lv_x _ k).symm ▸ le_rfl⟩

theorem O₀_pos {c : Dev nD} {g : GSem nD τ sig} {u : Unit} (h : 0 < O₀ c g u) : u ∈ L g ∧ 1 ≤ lv g u := by
  rcases Pipeline.add_pos_cases h with h | h
  · rcases Pipeline.add_pos_cases h with h | h
    · exact ⟨(oweX_pos h).1, le_trans (by decide) (oweX_pos h).2⟩
    · rw [tally_pos h]; exact ⟨by rw [L_tc]; exact Finset.mem_singleton_self _, le_rfl⟩
  · rw [tally_pos h]; exact ⟨by rw [L_tc]; exact Finset.mem_singleton_self _, le_rfl⟩

/-- A staging transfer may be waited for with everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ⟨(O₀_pos hg).1, ?_⟩
    refine lt_of_lt_of_le ?_ (O₀_pos hg).2
    dsimp only [lv]
    rw [if_neg (by omega), if_neg (by omega)]
    exact Nat.one_pos
  · rw [MayWait_zero]; iintro -; iempintro

/-- The barrier may be waited for once both its signals are given. -/
theorem mayWait_bar (c : Dev nD) : (levAts L lv : sProp 𝕄) ⊢ MayWait (c : Thread nD τ) (.reg barS) () (oweX c 0) :=
  Pipeline.mayWait_of_levAts (by rw [L_tc]; exact Finset.mem_singleton_self _) fun g u hg => ⟨(oweX_pos hg).1, (oweX_pos hg).2⟩

/-- A chunk of the half may be waited for when only sums are owed. -/
theorem mayWait_x (c : Dev nD) (k : Fin 4) (n : ℕ) : (levAts L lv : sProp 𝕄) ⊢ MayWait (c : Thread nD τ) (.dma (dq 1 k)) () (oweY c n) :=
  Pipeline.mayWait_of_levAts (by rw [L_tc]; exact Finset.mem_singleton_self _) fun g u hg => by
    obtain ⟨k', rfl⟩ := oweY_pos hg
    exact ⟨by rw [L_tc]; exact Finset.mem_singleton_self _, by rw [lv_x, lv_y]; decide⟩

/-- Any semaphore may be waited for when nothing is owed. -/
theorem mayWait_none (c : Dev nD) (s : SemLoc sig) : (levAts L lv : sProp 𝕄) ⊢ MayWait (c : Thread nD τ) s () (oweY c 4) := by
  rw [oweY_four, MayWait_zero]; iintro -; iempintro

end Cert.HalfSum

end
-- ==== Proof.Steps.lean ====
/- The steps of the kernel body, each proved once for any device and any chunk: the barrier, a send of the half, a wait
   at a transfer's semaphore, a send of a sum, and the whole of a chunk's addition. -/
module

public import proofs.«01_k».proof.Proof.Protocol

@[expose] public section

set_option maxRecDepth 16000

noncomputable section

namespace Cert.HalfSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every semaphore's invariant under its name, that every semaphore has reached round 0, and the levels. -/
noncomputable def records (K : Dev nD × Fin 17 → ℕ) : sProp 𝕄 :=
  iprop((bigSep Finset.univ fun p : Dev nD × Fin 17 => cellInv ER (Rd m ρ) (K p) (kcell p))
    ∗ (bigSep Finset.univ fun p : Dev nD × Fin 17 => reached ER (kcell p) 0) ∗ levAts L lv)

instance records_persistent (K : Dev nD × Fin 17 → ℕ) : BI.Persistent (records m ρ K) := by unfold records; infer_instance

variable (K : Dev nD × Fin 17 → ℕ)

theorem know_inv (p : Dev nD × Fin 17) : records m ρ K ⊢ cellInv ER (Rd m ρ) (K p) (kcell p) := by
  unfold records
  exact sep_elim_left.trans (bigSep_elim (Finset.mem_univ p))

theorem know_reached (p : Dev nD × Fin 17) : records m ρ K ⊢ reached ER (kcell p) 0 := by
  unfold records
  have h : (bigSep Finset.univ fun p : Dev nD × Fin 17 => (reached ER (kcell p) 0 : sProp 𝕄)) ⊢ reached ER (kcell p) 0 :=
    bigSep_elim (Finset.mem_univ p)
  iintro ⟨-, H, -⟩
  iapply h
  iexact H

theorem know_lev : records m ρ K ⊢ (levAts L lv : sProp 𝕄) := by
  unfold records
  iintro ⟨-, -, H⟩
  iexact H

theorem know_inv_dq (c : Dev nD) (j k : Fin 4) : records m ρ K ⊢ cellInv ER (Rd m ρ) (K (c, ci j k)) ((c : Thread nD τ), .dma (dq j k)) := by
  have h := know_inv m ρ K (c, ci j k)
  rwa [show kcell (c, ci j k) = ((c : Thread nD τ), .dma (dq j k)) from congrArg (Prod.mk _) (csem_ci j k)] at h

theorem know_reached_dq (c : Dev nD) (j k : Fin 4) : records m ρ K ⊢ reached ER ((c : Thread nD τ), .dma (dq j k)) 0 := by
  have h := know_reached m ρ K (c, ci j k)
  rwa [show kcell (c, ci j k) = ((c : Thread nD τ), .dma (dq j k)) from congrArg (Prod.mk _) (csem_ci j k)] at h

theorem know_inv_bar (c : Dev nD) : records m ρ K ⊢ cellInv ER (Rd m ρ) (K (c, 0)) (barCell c) := know_inv m ρ K (c, 0)
theorem know_reached_bar (c : Dev nD) : records m ρ K ⊢ reached ER (barCell c) 0 := know_reached m ρ K (c, 0)

/-! ## What a step takes and gives -/

/-- Device `c` owes `O`, whatever it has waited for. -/
noncomputable def ow (c : Dev nD) (O : CellTallies nD τ sig Unit) : sProp 𝕄 := iprop(∃ W, owes (c : Thread nD τ) O W)

/-- The right to wait at a transfer's semaphore: the credit of a chunk, and the place at the start of the round. -/
noncomputable def waitR (c : Dev nD) (j k : Fin 4) : sProp 𝕄 :=
  iprop(cred (tallyAt ((c : Thread nD τ), .dma (dq j k)) () N) ∗ atPos ER ((c : Thread nD τ), .dma (dq j k)) 0 ∅ 0)

/-- The right to send chunk `k` to device `n` with the semaphores of kind `j` here and `j'` there: both duties' tokens
    and the place at the send semaphore. -/
noncomputable def sendR (c n : Dev nD) (j j' k : Fin 4) : sProp 𝕄 :=
  iprop(dutyTok ER ((c : Thread nD τ), .dma (dq j k)) 0 false ∗ dutyTok ER ((n : Thread nD τ), .dma (dq j' k)) 0 false
    ∗ atPos ER ((c : Thread nD τ), .dma (dq j k)) 0 ∅ 0)

/-- A closed semaphore of `c`, at zero. -/
noncomputable def zero (c : Dev nD) (j k : Fin 4) : sProp 𝕄 := semVal ((c : Thread nD τ), .dma (dq j k)) 0

section Steps

/-- A wait at a transfer's semaphore: its payload comes back, and the semaphore closes at zero. -/
theorem step_wait {α : Type} {Q : α → sProp 𝕄} {kt : PUnit → Prog (TpuEff nD τ sig (Elt F) Λ₀ .tc) α}
    (c : Dev nD) (j k : Fin 4) (O : CellTallies nD τ sig Unit)
    (hO : (levAts L lv : sProp 𝕄) ⊢ MayWait (c : Thread nD τ) (.dma (dq j k)) () O)
    {w : TpuEff nD τ sig (Elt F) Λ₀ .tc PUnit}
    (hw : ∀ T : PUnit → sProp 𝕄, wpE (defs₀ (F := F)) 𝒱₀ (c : Thread nD τ) none Set.univ w T
      = waitSpec (c : Thread nD τ) Set.univ (.dma (dq j k)) N T) :
    iprop(records m ρ K ∗ ow c O ∗ waitR c j k)
      ⊢ iprop(((ow c O ∗ zero c j k ∗ dpay m ρ c j.val k.val) -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  have hl := (know_lev m ρ K).trans hO
  unfold ow waitR zero
  iintro ⟨#Hrec, ⟨%W, HO⟩, Hc, Hat⟩ Hk
  have he : 0 + N = (Rd (F := F) m ρ).expect ((c : Thread nD τ), .dma (dq j k)) 0 := by rw [Nat.zero_add, expect_dma]
  iapply (Rounds.wp_wait_rest_token 𝒱₀ ER (Rd m ρ) (c : Thread nD τ) none (κ := K (c, ci j k)) hw (Set.mem_univ _) ()
      (O := O) (W := W) (R := 0) (m := 0) (T := ∅) he) $$ [HO Hc Hat]
  · isplitr; · iapply (know_inv_dq m ρ K c j k); iexact Hrec
    isplitl [Hc]; · iexact Hc
    isplitl [HO]; · iexact HO
    isplitr
    · iapply hl
      iexact Hrec
    iexact Hat
  iintro ⟨HO, Hat, -, Hpay⟩
  ihave Hp := (Entails.of_eq (rest_dma m ρ c j k)) $$ Hpay
  imod (Rounds.cell_close ER (Rd m ρ) (Set.mem_univ (K (c, ci j k))) (fun h => h) (R := 0 + 1) (duties_later m ρ _)) $$ [Hat] with Hz
  · isplitr; · iapply (know_inv_dq m ρ K c j k); iexact Hrec
    iexact Hat
  iapply Hk
  isplitl [HO]; · iexists _; iexact HO
  isplitl [Hz]; · iexact Hz
  iexact Hp

/-- Once all is sent, the wait at the semaphore of kind `j` for chunk `k`, that counts a transfer of rows of the half. -/
theorem step_done_s {α : Type} {Q : α → sProp 𝕄} {kt : PUnit → Prog (TpuEff nD τ sig (Elt F) Λ₀ .tc) α}
    (c : Dev nD) (j k : Fin 4)
    {off : Fin S256x512.rank → ℕ} {hb : ∀ a, off a + S64x512.size a ≤ S256x512.size a}
    {hs : (sM.slice (Rect.unit (s := S256x512) off S64x512.size hb) (fun _ => rfl)).view.WordExact}
    {hr : (rM.slice (Rect.unit (s := S256x512) off S64x512.size hb) (fun _ => rfl)).view.WordExact} :
    iprop(records m ρ K ∗ ow c (oweY c 4) ∗ waitR c j k)
      ⊢ iprop(((ow c (oweY c 4) ∗ zero c j k ∗ dpay m ρ c j.val k.val) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dq j k)
              (rM.slice (Rect.unit (s := S256x512) off S64x512.size hb) (fun _ => rfl))
              (sM.slice (Rect.unit (s := S256x512) off S64x512.size hb) (fun _ => rfl)) hr hs) kt) Q) :=
  step_wait m ρ K c j k (oweY c 4) (mayWait_none c _) (wpE_waitDma2_eq 𝒱₀ (c : Thread nD τ) none Set.univ)

/-- Once all is sent, the wait at the semaphore of kind `j` for chunk `k`, that counts a transfer of rows of the result. -/
theorem step_done_o {α : Type} {Q : α → sProp 𝕄} {kt : PUnit → Prog (TpuEff nD τ sig (Elt F) Λ₀ .tc) α}
    (c : Dev nD) (j k : Fin 4)
    {off : Fin S512x512.rank → ℕ} {hb : ∀ a, off a + S64x512.size a ≤ S512x512.size a}
    {hs hr : (oM.slice (Rect.unit (s := S512x512) off S64x512.size hb) (fun _ => rfl)).view.WordExact} :
    iprop(records m ρ K ∗ ow c (oweY c 4) ∗ waitR c j k)
      ⊢ iprop(((ow c (oweY c 4) ∗ zero c j k ∗ dpay m ρ c j.val k.val) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dq j k)
              (oM.slice (Rect.unit (s := S512x512) off S64x512.size hb) (fun _ => rfl))
              (oM.slice (Rect.unit (s := S512x512) off S64x512.size hb) (fun _ => rfl)) hr hs) kt) Q) :=
  step_wait m ρ K c j k (oweY c 4) (mayWait_none c _) (wpE_waitDma2_eq 𝒱₀ (c : Thread nD τ) none Set.univ)

/-- The send of chunk `k` of the half across `x`: the left share of the chunk leaves with it. -/
theorem step_send_x {α : Type} {Q : α → sProp 𝕄} {kt : PUnit → Prog (TpuEff nD τ sig (Elt F) Λ₀ .tc) α}
    (c n : Dev nD) (hn : n = xp c) (k : Fin 4)
    {off : Fin S256x512.rank → ℕ} {hb : ∀ a, off a + S64x512.size a ≤ S256x512.size a} (hoff : off = ![64 * k.val, 0])
    {hsc : (rM.slice (Rect.unit (s := S256x512) off S64x512.size hb) (fun _ => rfl) : Memref sig (Dev.tc n : Thread nD τ).2.kind .vmem S64x512 .bf16).view.ref.isScScratch = false}
    {hsrc : (sM.slice (Rect.unit (s := S256x512) off S64x512.size hb) (fun _ => rfl)).view.WordExact}
    {hdst : (rM.slice (Rect.unit (s := S256x512) off S64x512.size hb) (fun _ => rfl)).view.WordExact}
    {hsem : DmaTarget.Typed .vmem (.dma (dq 1 k)) (.remote (Dev.tc n : Thread nD τ) (rM.slice (Rect.unit (s := S256x512) off S64x512.size hb) (fun _ => rfl)) (.dma (dq 0 k)) hsc)}
    (f : (cc0_scratch1 : Ref sig .tc).ty.Contents (Elt F)) :
    iprop(records m ρ K ∗ ow c (oweX c k.val) ∗ sPts c k.val fullShare.left (xsV m ρ c) ∗ rPts (xp c) k.val f ∗ sendR c (xp c) 0 1 k)
      ⊢ iprop(((ow c (oweX c (k.val + 1)) ∗ waitR c 0 k) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sM.slice (Rect.unit (s := S256x512) off S64x512.size hb) (fun _ => rfl))
                (.remote (Dev.tc n : Thread nD τ) (rM.slice (Rect.unit (s := S256x512) off S64x512.size hb) (fun _ => rfl)) (.dma (dq 0 k)) hsc)
                (.dma (dq 1 k)) hsrc hdst hsem) kt) Q) := by
  subst hn
  have es : (sM.slice (Rect.unit (s := S256x512) off S64x512.size hb) (fun _ => rfl)).view.set = ck k.val :=
    (View.set_slice_whole _ _).trans (rect_ck hoff)
  have er : (rM.slice (Rect.unit (s := S256x512) off S64x512.size hb) (fun _ => rfl)).view.set = ck k.val :=
    (View.set_slice_whole _ _).trans (rect_ck hoff)
  unfold ow waitR sendR
  iintro ⟨#Hrec, ⟨%W, HO⟩, Hs, Hr, Ht, Ht', Hat⟩ Hk
  rw [oweX_step]
  iapply (Rounds.wp_send_pointsTo 𝒱₀ ER (Rd m ρ) (c : Thread nD τ) none (κ₁ := K (c, ci 0 k)) (κ₂ := K (xp c, ci 1 k))
    (c' := (Dev.tc (xp c) : Thread nD τ)) (src := sM.slice (Rect.unit (s := S256x512) off S64x512.size hb) (fun _ => rfl))
    (dst := rM.slice (Rect.unit (s := S256x512) off S64x512.size hb) (fun _ => rfl))
    (q := fullShare.left) (fs := xsV m ρ c)
    (r₁ := 0) (r₂ := 0) (d₁ := false) (d₂ := false) (fd := f)
    (mem_dma m ρ c _) (mem_dma m ρ (xp c) _) () () N rfl rfl rfl (oweX c (k.val + 1)) rfl (W := W)
    (by
      rw [es]
      show _ ⊢ pay m ρ c (.dma (dq 0 k)) false
      rw [pay_dq]
      exact BI.Entails.refl _)
    (by
      rw [er]
      show _ ⊢ pay m ρ (xp c) (.dma (dq 1 k)) false
      rw [pay_dq]
      show _ ⊢ rPts (xp c) k.val (xsV m ρ (xp (xp c)))
      rw [xp_xp]
      exact Entails.of_eq (pointsTo_congr (land_x hoff _ _)))) $$ [HO Hs Hr Ht Ht']
  · isplitr; · iapply (know_inv_dq m ρ K c 0 k); iexact Hrec
    isplitr; · iapply (know_inv_dq m ρ K (xp c) 1 k); iexact Hrec
    isplitl [Hs]; · rw [es]; unfold sPts; iexact Hs
    isplitl [Hr]; · rw [er]; unfold rPts; iexact Hr
    isplitl [HO]; · iexact HO
    isplitl [Ht]; · iexact Ht
    isplitr; · iapply (know_reached_dq m ρ K c 0 k); iexact Hrec
    isplitl [Ht']; · iexact Ht'
    iapply (know_reached_dq m ρ K (xp c) 1 k); iexact Hrec
  iintro ⟨Hc, HO⟩
  iapply Hk
  isplitl [HO]; · iexists _; iexact HO
  isplitl [Hc]; · iexact Hc
  iexact Hat

/-- The send of chunk `k` of the sum across `y`. -/
theorem step_send_y {α : Type} {Q : α → sProp 𝕄} {kt : PUnit → Prog (TpuEff nD τ sig (Elt F) Λ₀ .tc) α}
    (c n : Dev nD) (hn : n = yp c) (k : Fin 4)
    {off : Fin S512x512.rank → ℕ} {hb : ∀ a, off a + S64x512.size a ≤ S512x512.size a} (hoff : off = ![256 * yy c + 64 * k.val, 0])
    {hsc : (oM.slice (Rect.unit (s := S512x512) off S64x512.size hb) (fun _ => rfl) : Memref sig (Dev.tc n : Thread nD τ).2.kind .vmem S64x512 .bf16).view.ref.isScScratch = false}
    {hsrc : (oM.slice (Rect.unit (s := S512x512) off S64x512.size hb) (fun _ => rfl)).view.WordExact}
    {hdst : (oM.slice (Rect.unit (s := S512x512) off S64x512.size hb) (fun _ => rfl)).view.WordExact}
    {hsem : DmaTarget.Typed .vmem (.dma (dq 3 k)) (.remote (Dev.tc n : Thread nD τ) (oM.slice (Rect.unit (s := S512x512) off S64x512.size hb) (fun _ => rfl)) (.dma (dq 2 k)) hsc)}
    (f : (cc0_stg1_0 : Ref sig .tc).ty.Contents (Elt F)) :
    iprop(records m ρ K ∗ ow c (oweY c k.val) ∗ oPts c (4 * yy c + k.val) (outV m ρ c) ∗ oPts (yp c) (4 * yy c + k.val) f ∗ sendR c (yp c) 2 3 k)
      ⊢ iprop(((ow c (oweY c (k.val + 1)) ∗ waitR c 2 k) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oM.slice (Rect.unit (s := S512x512) off S64x512.size hb) (fun _ => rfl))
                (.remote (Dev.tc n : Thread nD τ) (oM.slice (Rect.unit (s := S512x512) off S64x512.size hb) (fun _ => rfl)) (.dma (dq 2 k)) hsc)
                (.dma (dq 3 k)) hsrc hdst hsem) kt) Q) := by
  subst hn
  have hoff' : off = ![64 * (4 * yy c + k.val), 0] := by rw [hoff]; congr 1; omega
  have eo : (oM.slice (Rect.unit (s := S512x512) off S64x512.size hb) (fun _ => rfl)).view.set = ob (4 * yy c + k.val) :=
    (View.set_slice_whole _ _).trans (rect_ob hoff')
  unfold ow waitR sendR
  iintro ⟨#Hrec, ⟨%W, HO⟩, Hs, Hr, Ht, Ht', Hat⟩ Hk
  rw [oweY_step]
  iapply (Rounds.wp_send_pointsTo 𝒱₀ ER (Rd m ρ) (c : Thread nD τ) none (κ₁ := K (c, ci 2 k)) (κ₂ := K (yp c, ci 3 k))
    (c' := (Dev.tc (yp c) : Thread nD τ)) (src := oM.slice (Rect.unit (s := S512x512) off S64x512.size hb) (fun _ => rfl))
    (dst := oM.slice (Rect.unit (s := S512x512) off S64x512.size hb) (fun _ => rfl))
    (q := fullShare) (fs := outV m ρ c)
    (r₁ := 0) (r₂ := 0) (d₁ := false) (d₂ := false) (fd := f)
    (mem_dma m ρ c _) (mem_dma m ρ (yp c) _) () () N rfl rfl rfl (oweY c (k.val + 1)) rfl (W := W)
    (by
      rw [eo]
      show _ ⊢ pay m ρ c (.dma (dq 2 k)) false
      rw [pay_dq]
      exact BI.Entails.refl _)
    (by
      rw [eo]
      show _ ⊢ pay m ρ (yp c) (.dma (dq 3 k)) false
      rw [pay_dq]
      show _ ⊢ oPts (yp c) (4 * (1 - yy (yp c)) + k.val) (outV m ρ (yp c))
      rw [yy_yp, outV_yp, show 1 - (1 - yy c) = yy c from by have := yy_lt c; omega]
      exact Entails.of_eq (pointsTo_congr (land_y hoff' _ _)))) $$ [HO Hs Hr Ht Ht']
  · isplitr; · iapply (know_inv_dq m ρ K c 2 k); iexact Hrec
    isplitr; · iapply (know_inv_dq m ρ K (yp c) 3 k); iexact Hrec
    isplitl [Hs]; · rw [eo]; unfold oPts; iexact Hs
    isplitl [Hr]; · rw [eo]; unfold oPts; iexact Hr
    isplitl [HO]; · iexact HO
    isplitl [Ht]; · iexact Ht
    isplitr; · iapply (know_reached_dq m ρ K c 2 k); iexact Hrec
    isplitl [Ht']; · iexact Ht'
    iapply (know_reached_dq m ρ K (yp c) 3 k); iexact Hrec
  iintro ⟨Hc, HO⟩
  iapply Hk
  isplitl [HO]; · iexists _; iexact HO
  isplitl [Hc]; · iexact Hc
  iexact Hat

/-! ## The barrier -/

/-- A receive buffer pays for the signal across `x`. -/
theorem barX_intro (c : Dev nD) (f : (cc0_scratch1 : Ref sig .tc).ty.Contents (Elt F)) :
    iprop(rPts c 0 f ∗ rPts c 1 f ∗ rPts c 2 f ∗ rPts c 3 f) ⊢ (Rd (F := F) m ρ).payload (barCell (xp c)) 0 true := by
  show _ ⊢ barX (xp c)
  unfold barX
  rw [xp_xp]
  iintro H
  iexists f
  iexact H

/-- The rows the neighbour sums pay for the signal across `y`. -/
theorem barY_intro (c : Dev nD) (f : (cc0_stg1_0 : Ref sig .tc).ty.Contents (Elt F)) :
    iprop(oPts c (4 * (1 - yy c) + 0) f ∗ oPts c (4 * (1 - yy c) + 1) f ∗ oPts c (4 * (1 - yy c) + 2) f ∗ oPts c (4 * (1 - yy c) + 3) f)
      ⊢ (Rd (F := F) m ρ).payload (barCell (yp c)) 0 false := by
  show _ ⊢ barY (yp c)
  unfold barY
  rw [yp_yp, yy_yp]
  iintro H
  iexists f
  iexact H

/-- The signal across `x`: it hands over the receive buffer. -/
theorem step_signal_x {α : Type} {Q : α → sProp 𝕄} {kt : PUnit → Prog (TpuEff nD τ sig (Elt F) Λ₀ .tc) α}
    (c n : Dev nD) (hn : n = xp c) (u : ℕ) (hu : u = 1) (f : (cc0_scratch1 : Ref sig .tc).ty.Contents (Elt F)) :
    iprop(records m ρ K ∗ ow c (O₀ c) ∗ dutyTok ER (barCell (xp c)) 0 true ∗ rPts c 0 f ∗ rPts c 1 f ∗ rPts c 2 f ∗ rPts c 3 f)
      ⊢ iprop((ow c (oweB c) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) barS u) kt) Q) := by
  subst hn hu
  unfold ow
  iintro ⟨#Hrec, ⟨%W, HO⟩, Ht, H0, H1, H2, H3⟩ Hk
  iapply (Rounds.wp_signal 𝒱₀ ER (Rd m ρ) (c : Thread nD τ) none (dst := (xp c : Thread nD τ)) (sem := barS) (κ := K (xp c, 0))
      (d := true) (mem_bar m ρ (xp c) true) rfl () (oweB c) rfl (W := W)) $$ [HO Ht H0 H1 H2 H3]
  · isplitr; · iapply (know_inv_bar m ρ K (xp c)); iexact Hrec
    isplitl [HO]; · iexact HO
    isplitl [Ht]; · iexact Ht
    isplitl
    · iapply (barX_intro m ρ c f)
      isplitl [H0]; · iexact H0
      isplitl [H1]; · iexact H1
      isplitl [H2]; · iexact H2
      iexact H3
    iapply (know_reached_bar m ρ K (xp c)); iexact Hrec
  iintro HO
  iapply Hk
  iexists W
  iexact HO

/-- The signal across `y`: it hands over the rows of the result that the neighbour sums. -/
theorem step_signal_y {α : Type} {Q : α → sProp 𝕄} {kt : PUnit → Prog (TpuEff nD τ sig (Elt F) Λ₀ .tc) α}
    (c n : Dev nD) (hn : n = yp c) (u : ℕ) (hu : u = 1) (f : (cc0_stg1_0 : Ref sig .tc).ty.Contents (Elt F)) :
    iprop(records m ρ K ∗ ow c (oweB c) ∗ dutyTok ER (barCell (yp c)) 0 false
        ∗ oPts c (4 * (1 - yy c) + 0) f ∗ oPts c (4 * (1 - yy c) + 1) f ∗ oPts c (4 * (1 - yy c) + 2) f ∗ oPts c (4 * (1 - yy c) + 3) f)
      ⊢ iprop((ow c (oweX c 0) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc n : Thread nD τ) barS u) kt) Q) := by
  subst hn hu
  unfold ow
  iintro ⟨#Hrec, ⟨%W, HO⟩, Ht, H0, H1, H2, H3⟩ Hk
  iapply (Rounds.wp_signal 𝒱₀ ER (Rd m ρ) (c : Thread nD τ) none (dst := (yp c : Thread nD τ)) (sem := barS) (κ := K (yp c, 0))
      (d := false) (mem_bar m ρ (yp c) false) rfl () (oweX c 0) rfl (W := W)) $$ [HO Ht H0 H1 H2 H3]
  · isplitr; · iapply (know_inv_bar m ρ K (yp c)); iexact Hrec
    isplitl [HO]; · iexact HO
    isplitl [Ht]; · iexact Ht
    isplitl
    · iapply (barY_intro m ρ c f)
      isplitl [H0]; · iexact H0
      isplitl [H1]; · iexact H1
      isplitl [H2]; · iexact H2
      iexact H3
    iapply (know_reached_bar m ρ K (yp c)); iexact Hrec
  iintro HO
  iapply Hk
  iexists W
  iexact HO

/-- The wait for both signals: both neighbours' buffers come with it, and the barrier closes at zero. -/
theorem step_bar {α : Type} {Q : α → sProp 𝕄} {kt : PUnit → Prog (TpuEff nD τ sig (Elt F) Λ₀ .tc) α} (c : Dev nD) (u : ℕ) (hu : u = 2) :
    iprop(records m ρ K ∗ ow c (oweX c 0) ∗ cred (tallyAt (barCell c) () 2) ∗ atPos ER (barCell c) 0 ∅ 0)
      ⊢ iprop(((ow c (oweX c 0) ∗ semVal (barCell c) 0 ∗ barX c ∗ barY c) -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS u) kt) Q) := by
  subst hu
  have hl := (know_lev m ρ K).trans (mayWait_bar (F := F) c)
  have he : 0 + 2 = (Rd (F := F) m ρ).expect (barCell c) 0 := by rw [Nat.zero_add, expect_bar]
  unfold ow
  iintro ⟨#Hrec, ⟨%W, HO⟩, Hc, Hat⟩ Hk
  iapply (Rounds.wp_wait_rest_token 𝒱₀ ER (Rd m ρ) (c : Thread nD τ) none (κ := K (c, 0))
      (wpE_semWait_eq 𝒱₀ (c : Thread nD τ) none Set.univ) (Set.mem_univ _) ()
      (O := oweX c 0) (W := W) (R := 0) (m := 0) (T := ∅) he) $$ [HO Hc Hat]
  · isplitr; · iapply (know_inv_bar m ρ K c); iexact Hrec
    isplitl [Hc]; · iexact Hc
    isplitl [HO]; · iexact HO
    isplitr
    · iapply hl
      iexact Hrec
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (duties_later m ρ _)) $$ [Hat] with Hz
  · isplitr; · iapply (know_inv_bar m ρ K c); iexact Hrec
    iexact Hat
  iapply Hk
  isplitl [HO]; · iexists _; iexact HO
  isplitl [Hz]; · iexact Hz
  iexact Hp

/-! ## A chunk -/

/-- A chunk: wait for it to land, add it to one's own, store the sum and send it on across `y`. -/
theorem step_chunk {α : Type} {Q : α → sProp 𝕄} {kt : PUnit → Prog (TpuEff nD τ sig (Elt F) Λ₀ .tc) α} (c n : Dev nD) (hn : n = yp c) (k : Fin 4)
    {offs : Fin S256x512.rank → ℕ} {hbs : ∀ a, offs a + S64x512.size a ≤ S256x512.size a} (hoffs : offs = ![64 * k.val, 0])
    {offo : Fin S512x512.rank → ℕ} {hbo : ∀ a, offo a + S64x512.size a ≤ S512x512.size a} (hoffo : offo = ![256 * yy c + 64 * k.val, 0])
    {off : Fin S512x512.rank → ℕ} {hb : ∀ a, off a + S64x512.size a ≤ S512x512.size a} (hoff : off = ![256 * yy c + 64 * k.val, 0])
    {hws : (sM.slice (Rect.unit (s := S256x512) offs S64x512.size hbs) (fun _ => rfl)).view.WordExact}
    {hwr : (rM.slice (Rect.unit (s := S256x512) offs S64x512.size hbs) (fun _ => rfl)).view.WordExact}
    {hls : sM.view.LoadsAt (Rect.unit (s := S256x512) offs S64x512.size hbs).toLoadRect}
    {hlr : rM.view.LoadsAt (Rect.unit (s := S256x512) offs S64x512.size hbs).toLoadRect}
    {hlo : oM.view.LoadsAt (Rect.unit (s := S512x512) offo S64x512.size hbo).toLoadRect}
    {hx : (oM.access (Rect.unit (s := S512x512) offo S64x512.size hbo)).Stores Finset.univ}
    {hm : (Finset.univ : Finset (Rect.unit (s := S512x512) offo S64x512.size hbo).shape.Idx) = Finset.univ
      ∨ ∀ a, (Rect.unit (s := S512x512) offo S64x512.size hbo).stride a = 1}
    {hsc : (oM.slice (Rect.unit (s := S512x512) off S64x512.size hb) (fun _ => rfl) : Memref sig (Dev.tc n : Thread nD τ).2.kind .vmem S64x512 .bf16).view.ref.isScScratch = false}
    {hsrc : (oM.slice (Rect.unit (s := S512x512) off S64x512.size hb) (fun _ => rfl)).view.WordExact}
    {hdst : (oM.slice (Rect.unit (s := S512x512) off S64x512.size hb) (fun _ => rfl)).view.WordExact}
    {hsem : DmaTarget.Typed .vmem (.dma (dq 3 k)) (.remote (Dev.tc n : Thread nD τ) (oM.slice (Rect.unit (s := S512x512) off S64x512.size hb) (fun _ => rfl)) (.dma (dq 2 k)) hsc)}
    (f f' : (cc0_stg1_0 : Ref sig .tc).ty.Contents (Elt F)) :
    iprop(records m ρ K ∗ ow c (oweY c k.val) ∗ waitR c 1 k ∗ sPts c k.val fullShare.right (xsV m ρ c)
        ∗ oPts c (4 * yy c + k.val) f ∗ oPts (yp c) (4 * yy c + k.val) f' ∗ sendR c (yp c) 2 3 k)
      ⊢ iprop(((ow c (oweY c (k.val + 1)) ∗ zero c 1 k ∗ sPts c k.val fullShare.right (xsV m ρ c) ∗ rPts c k.val (xsV m ρ (xp c))
            ∗ waitR c 2 k) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (dq 1 k) (sM.slice (Rect.unit (s := S256x512) offs S64x512.size hbs) (fun _ => rfl))
                (rM.slice (Rect.unit (s := S256x512) offs S64x512.size hbs) (fun _ => rfl)) hws hwr) fun _ =>
              .op (.load sM (Rect.unit (s := S256x512) offs S64x512.size hbs).toLoadRect hls) fun a : Vec F S64x512 .bf16 =>
              .op (.load rM (Rect.unit (s := S256x512) offs S64x512.size hbs).toLoadRect hlr) fun b : Vec F S64x512 .bf16 =>
              .op (.load oM (Rect.unit (s := S512x512) offo S64x512.size hbo).toLoadRect hlo) fun _ =>
              .op (.store oM (Rect.unit (s := S512x512) offo S64x512.size hbo)
                (addf (F := F) (s := S64x512) (φ := .bf16) a b) Finset.univ hx hm) fun _ =>
              .op (.enqueueDma (oM.slice (Rect.unit (s := S512x512) off S64x512.size hb) (fun _ => rfl))
                (.remote (Dev.tc n : Thread nD τ) (oM.slice (Rect.unit (s := S512x512) off S64x512.size hb) (fun _ => rfl)) (.dma (dq 2 k)) hsc)
                (.dma (dq 3 k)) hsrc hdst hsem) kt) Q) := by
  have ho' : offo = ![64 * (4 * yy c + k.val), 0] := by rw [hoffo]; congr 1; omega
  have es : ((View.whole cc0_scratch0).slice (Rect.unit (s := S256x512) offs S64x512.size hbs)).set ⊆ ck k.val := by
    rw [View.set_slice_whole, rect_ck hoffs]
  have er : ((View.whole cc0_scratch1).slice (Rect.unit (s := S256x512) offs S64x512.size hbs)).set ⊆ ck k.val := by
    rw [View.set_slice_whole, rect_ck hoffs]
  have eo : ((View.whole cc0_stg1_0).slice (Rect.unit (s := S512x512) offo S64x512.size hbo)).set ⊆ ob (4 * yy c + k.val) := by
    rw [View.set_slice_whole, rect_ob ho']
  iintro ⟨#Hrec, HO, Hw, Hs, Ho, Hn, Ht⟩ Hk
  iapply (step_wait m ρ K c 1 k (oweY c k.val) (mayWait_x c k k.val)
    (wpE_waitDma2_eq 𝒱₀ (c : Thread nD τ) none Set.univ (hsrc := hws) (hdst := hwr))) $$ [HO Hw]
  · isplitr; · iexact Hrec
    isplitl [HO]; · iexact HO
    iexact Hw
  iintro ⟨HO, Hz, Hr⟩
  ihave Hr := (show dpay m ρ c ((1 : Fin 4) : ℕ) k.val ⊢ rPts c k.val (xsV m ρ (xp c)) from Entails.of_eq (dpay_1 m ρ c k.val)) $$ Hr
  unfold sPts rPts
  iapply (wp_load_rect 𝒱₀ (c : Thread nD τ) none Set.univ (m := sM) es) $$ Hs; iintro Hs
  iapply (wp_load_rect 𝒱₀ (c : Thread nD τ) none Set.univ (m := rM) er) $$ Hr; iintro Hr
  unfold oPts
  iapply (wp_load_rect 𝒱₀ (c : Thread nD τ) none Set.univ (m := oM) eo) $$ Ho; iintro Ho
  iapply (wp_store 𝒱₀ (c : Thread nD τ) none Set.univ (m := oM) (Mk := Finset.univ) eo) $$ Ho; iintro Ho
  iapply (step_send_y m ρ K c n hn k hoff f') $$ [HO Ho Hn Ht]
  · isplitr; · iexact Hrec
    isplitl [HO]; · iexact HO
    isplitl [Ho]
    · unfold oPts
      iapply (Entails.of_eq (pointsTo_congr
        (f := (oM.access (Rect.unit (s := S512x512) offo S64x512.size hbo)).write (Elt F) f
          (addf (F := F) (s := S64x512) (φ := .bf16)
            (sM.view.readAt (Elt F) (Rect.unit (s := S256x512) offs S64x512.size hbs).toLoadRect (xsV m ρ c))
            (rM.view.readAt (Elt F) (Rect.unit (s := S256x512) offs S64x512.size hbs).toLoadRect (xsV m ρ (xp c)))) Finset.univ)
        (land_sum m ρ c k hoffs hoffo f)))
      iexact Ho
    isplitl [Hn]; · unfold oPts; iexact Hn
    iexact Ht
  iintro ⟨HO, Hw⟩
  iapply Hk
  isplitl [HO]; · iexact HO
  isplitl [Hz]; · iexact Hz
  isplitl [Hs]; · iexact Hs
  isplitl [Hr]; · iexact Hr
  iexact Hw

end Steps

end Cert.HalfSum

end
-- ==== Proof.Split.lean ====
/- The buffers cut into chunks of 64 rows, and put together again. -/
module

public import proofs.«01_k».proof.Proof.Protocol

@[expose] public section

noncomputable section

namespace Cert.HalfSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer whose elements fall into disjoint sets is those sets, each owned. -/
theorem whole_pieces {n : ℕ} (ℓ : Loc nD τ sig) (P : Fin n → Finset (Idx ℓ)) (hd : ∀ t t', t ≠ t' → Disjoint (P t) (P t'))
    (hu : ∀ i, ∃ t, i ∈ P t) (f : Buf (Elt F) ℓ) :
    (ℓ ↦{fullShare} f : sProp 𝕄) = bigSep Finset.univ fun t => ℓ ↦[P t]{fullShare} f := by
  rw [← pointsTo_biUnion Finset.univ P (fun t _ t' _ h => hd t t' h)]
  congr 1
  ext i
  obtain ⟨t, ht⟩ := hu i
  simpa using ⟨t, ht⟩

/-- Four facts, one per chunk. -/
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- Eight facts, in order. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- Two different chunks of a half share no element. -/
theorem ck_disjoint {k k' : ℕ} (h : k ≠ k') : Disjoint (ck k) (ck k') :=
  Finset.disjoint_left.mpr fun i hi hi' => h ((mem_ck.mp hi).symm.trans (mem_ck.mp hi'))

/-- Two different chunks of a result share no element. -/
theorem ob_disjoint {k k' : ℕ} (h : k ≠ k') : Disjoint (ob k) (ob k') :=
  Finset.disjoint_left.mpr fun i hi hi' => h ((mem_ob.mp hi).symm.trans (mem_ob.mp hi'))

/-- Every element of a half lies in one of its four chunks. -/
theorem ck_cover (i : S256x512.Idx) : ∃ t : Fin 4, i ∈ ck t.val := by
  have h : (i 0).val < 256 := (i 0).isLt
  exact ⟨⟨(i 0).val / 64, by omega⟩, mem_ck.mpr rfl⟩

/-- The send buffer is its four chunks. -/
theorem s_split (c : Dev nD) (f : (cc0_scratch0 : Ref sig .tc).ty.Contents (Elt F)) :
    ((c : Thread nD τ).loc cc0_scratch0 ↦{fullShare} f : sProp 𝕄)
      = iprop(sPts c 0 fullShare f ∗ sPts c 1 fullShare f ∗ sPts c 2 fullShare f ∗ sPts c 3 fullShare f) := by
  have h := whole_pieces ((c : Thread nD τ).loc cc0_scratch0) (fun t : Fin 4 => ck t.val)
    (fun t t' h => ck_disjoint fun e => h (Fin.ext e)) ck_cover f
  rw [h, four]
  rfl

/-- The receive buffer is its four chunks. -/
theorem r_split (c : Dev nD) (f : (cc0_scratch1 : Ref sig .tc).ty.Contents (Elt F)) :
    ((c : Thread nD τ).loc cc0_scratch1 ↦{fullShare} f : sProp 𝕄)
      = iprop(rPts c 0 f ∗ rPts c 1 f ∗ rPts c 2 f ∗ rPts c 3 f) := by
  have h := whole_pieces ((c : Thread nD τ).loc cc0_scratch1) (fun t : Fin 4 => ck t.val)
    (fun t t' h => ck_disjoint fun e => h (Fin.ext e)) ck_cover f
  rw [h, four]
  rfl

/-- The `t`-th chunk of a result of device `c`: first the four it sums, then the four it receives. -/
noncomputable def nth (c : Dev nD) (t : Fin 8) : ℕ := if t.val < 4 then 4 * yy c + t.val else 4 * (1 - yy c) + (t.val - 4)

/-- The result is the four chunks the device sums and the four it receives. -/
theorem o_split (c : Dev nD) (f : (cc0_stg1_0 : Ref sig .tc).ty.Contents (Elt F)) :
    ((c : Thread nD τ).loc cc0_stg1_0 ↦{fullShare} f : sProp 𝕄)
      = iprop(oPts c (4 * yy c + 0) f ∗ oPts c (4 * yy c + 1) f ∗ oPts c (4 * yy c + 2) f ∗ oPts c (4 * yy c + 3) f
        ∗ oPts c (4 * (1 - yy c) + 0) f ∗ oPts c (4 * (1 - yy c) + 1) f ∗ oPts c (4 * (1 - yy c) + 2) f ∗ oPts c (4 * (1 - yy c) + 3) f) := by
  have hy := yy_lt c
  have h := whole_pieces ((c : Thread nD τ).loc cc0_stg1_0) (fun t : Fin 8 => ob (nth c t)) (fun t t' h => ob_disjoint fun e => h (Fin.ext ?_))
    (fun i => ?_) f
  · rw [h, eight]
    rfl
  · have := t.isLt
    have := t'.isLt
    unfold nth at e
    split at e <;> split at e <;> omega
  · have hi : ((i : S512x512.Idx) 0).val < 512 := (i 0).isLt
    by_cases h : (i 0).val / 64 / 4 = yy c
    · refine ⟨⟨(i 0).val / 64 - 4 * yy c, by omega⟩, mem_ob.mpr ?_⟩
      unfold nth
      dsimp only
      rw [if_pos (by omega)]
      omega
    · refine ⟨⟨4 + ((i 0).val / 64 - 4 * (1 - yy c)), by omega⟩, mem_ob.mpr ?_⟩
      unfold nth
      dsimp only
      rw [if_neg (by omega)]
      omega

/-- A chunk of the send buffer is its two half shares. -/
theorem s_halves (c : Dev nD) (k : ℕ) (f : (cc0_scratch0 : Ref sig .tc).ty.Contents (Elt F)) :
    (sPts c k fullShare f : sProp 𝕄) ⊣⊢ iprop(sPts c k fullShare.left f ∗ sPts c k fullShare.right f) := by
  unfold sPts
  exact pointsTo_share (PosShare.mem_left_op_right fullShare)

/-- The send buffer, cut into chunks of two half shares each. -/
theorem s_out (c : Dev nD) (f : (cc0_scratch0 : Ref sig .tc).ty.Contents (Elt F)) :
    ((c : Thread nD τ).loc cc0_scratch0 ↦{fullShare} f : sProp 𝕄)
      ⊢ iprop((sPts c 0 fullShare.left f ∗ sPts c 1 fullShare.left f ∗ sPts c 2 fullShare.left f ∗ sPts c 3 fullShare.left f)
        ∗ (sPts c 0 fullShare.right f ∗ sPts c 1 fullShare.right f ∗ sPts c 2 fullShare.right f ∗ sPts c 3 fullShare.right f)) := by
  rw [s_split]
  iintro ⟨H0, H1, H2, H3⟩
  ihave H0 := (s_halves c 0 f).mp $$ H0
  ihave H1 := (s_halves c 1 f).mp $$ H1
  ihave H2 := (s_halves c 2 f).mp $$ H2
  ihave H3 := (s_halves c 3 f).mp $$ H3
  icases H0 with ⟨L0, R0⟩
  icases H1 with ⟨L1, R1⟩
  icases H2 with ⟨L2, R2⟩
  icases H3 with ⟨L3, R3⟩
  isplitl [L0 L1 L2 L3]
  · isplitl [L0]; · iexact L0
    isplitl [L1]; · iexact L1
    isplitl [L2]; · iexact L2
    iexact L3
  isplitl [R0]; · iexact R0
  isplitl [R1]; · iexact R1
  isplitl [R2]; · iexact R2
  iexact R3

/-- The two half shares of the four chunks make the send buffer again. -/
theorem s_back (c : Dev nD) (f : (cc0_scratch0 : Ref sig .tc).ty.Contents (Elt F)) :
    iprop((sPts c 0 fullShare.left f ∗ sPts c 1 fullShare.left f ∗ sPts c 2 fullShare.left f ∗ sPts c 3 fullShare.left f)
        ∗ (sPts c 0 fullShare.right f ∗ sPts c 1 fullShare.right f ∗ sPts c 2 fullShare.right f ∗ sPts c 3 fullShare.right f))
      ⊢ ((c : Thread nD τ).loc cc0_scratch0 ↦{fullShare} f : sProp 𝕄) := by
  rw [s_split]
  iintro ⟨⟨L0, L1, L2, L3⟩, R0, R1, R2, R3⟩
  isplitl [L0 R0]
  · iapply (s_halves c 0 f).mpr
    isplitl [L0] <;> iassumption
  isplitl [L1 R1]
  · iapply (s_halves c 1 f).mpr
    isplitl [L1] <;> iassumption
  isplitl [L2 R2]
  · iapply (s_halves c 2 f).mpr
    isplitl [L2] <;> iassumption
  iapply (s_halves c 3 f).mpr
  isplitl [L3] <;> iassumption

end Cert.HalfSum
-- ==== Proof.Body.lean ====
/- The kernel body, run once at any device from what the launch hands it to what it must leave. -/
module

public import Idealize.ShloMosaic.Lib.Pipeline.Launch
public import Idealize.ShloMosaic.Lib.Pipeline.Kit
public import Idealize.ShloMosaic.Lib.Pipeline.Value
public import proofs.«01_k».proof.Proof.Gen.KernelIdeal.Launch
public import proofs.«01_k».proof.Proof.Steps
public import proofs.«01_k».proof.Proof.Split
public import proofs.«01_k».proof.Proof.Gen.KernelIdeal.Points
public import proofs.«01_k».proof.Proof.Gen.KernelIdeal.Skeleton

@[expose] public section

set_option maxRecDepth 16000

noncomputable section

namespace Cert.HalfSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after -/

/-- For the barrier: its position and credit there, and the two duties it pays. -/
noncomputable def barR (c : Dev nD) : sProp 𝕄 :=
  iprop(cred (tallyAt (barCell c) () 2) ∗ atPos ER (barCell c) 0 ∅ 0
    ∗ dutyTok ER (barCell (xp c)) 0 true ∗ dutyTok ER (barCell (yp c)) 0 false)

/-- For chunk `k`: what it needs to send its half, to wait for the neighbour's, to send the sum, and to wait for the
    other sum. -/
noncomputable def chunkR (c : Dev nD) (k : Fin 4) : sProp 𝕄 :=
  iprop(sendR c (xp c) 0 1 k ∗ waitR c 1 k ∗ sendR c (yp c) 2 3 k ∗ waitR c 3 k)

/-- All of it. -/
noncomputable def start (c : Dev nD) : sProp 𝕄 :=
  iprop((∃ K, records m ρ K) ∗ barR c ∗ chunkR c 0 ∗ chunkR c 1 ∗ chunkR c 2 ∗ chunkR c 3)

/-- The two scratch buffers, whatever they hold. -/
noncomputable def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The four semaphores of chunk `k` at zero. -/
noncomputable def zeros (c : Dev nD) (k : Fin 4) : sProp 𝕄 := iprop(zero c 0 k ∗ zero c 1 k ∗ zero c 2 k ∗ zero c 3 k)

/-- Before the body. -/
noncomputable def Φ₀ (c : Dev nD) : sProp 𝕄 := iprop(start m ρ c ∗ scr c)
/-- After the body: every semaphore is at zero. -/
noncomputable def Φ₁ (c : Dev nD) : sProp 𝕄 :=
  iprop(scr c ∗ (zeros c 0 ∗ zeros c 1 ∗ zeros c 2 ∗ zeros c 3) ∗ semVal (barCell c) 0)

/-- The staging pipeline's proof data: the input is left as it was, the result is the sum. -/
noncomputable def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- The staging buffer `b`, holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from. -/
noncomputable def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it leaves. -/
noncomputable def bodyPost (c : Dev nD) : sProp 𝕄 :=
  iprop(Φ₁ c ∗ (dats m ρ 0 c).owesAt () t0_0.succ ∗ stg c cc0_stg0_0 (xstg m ρ c) ∗ stg c cc0_stg1_0 (outV m ρ c))

/-! ## The copy of the half -/

theorem corner : (![0, 0] : Fin 2 → Nat) = fun _ => 0 := funext fun a => by fin_cases a <;> rfl

/-- Writing the loaded half over the whole send buffer leaves the half there. -/
theorem copy_half (c : Dev nD) (hb) (f : (cc0_scratch0 : Ref sig .tc).ty.Contents (Elt F)) :
    (sM.access (Rect.unit (s := S256x512) ![0, 0] S256x512.size hb)).write (Elt F) f
      (k0_pay1 (xM.view.readAt (Elt F) (Rect.unit (s := S512x512) (k0_off1 c) S256x512.size (k0_off1_inb c)).toLoadRect (xstg m ρ c))) Finset.univ
      = xsV m ρ c := by
  refine (Memref.write_access_unit_zero_univ (Elt F) cc0_scratch0 corner _ f _).trans ?_
  unfold k0_pay1
  dsimp only
  rw [shapeCast_self, shapeCast_self]
  rfl

/-! ## The body -/

set_option maxHeartbeats 4000000 in
/-- The body, run from `bodyPre` to `bodyPost`. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre Φ₀ start scr barR chunkR
  iintro ⟨⟨⟨⟨⟨%K, #Hrec⟩, ⟨Hbc, Hba, Hbx, Hby⟩, ⟨A0, B0, C0, D0⟩, ⟨A1, B1, C1, D1⟩, ⟨A2, B2, C2, D2⟩, ⟨A3, B3, C3, D3⟩⟩,
    ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the barrier's two signals: the receive buffer across `x`, the rows the neighbour sums across `y`
  ihave Hr := (Entails.of_eq (r_split c fr)) $$ Hr
  icases Hr with ⟨R0, R1, R2, R3⟩
  iapply (step_signal_x m ρ K c _ (Fin.ext (k0_dev1_eq c)) _ (by decide) fr) $$ [HO Hbx R0 R1 R2 R3]
  · isplitr; · iexact Hrec
    isplitl [HO]; · unfold ow; iexists W; iexact HO
    isplitl [Hbx]; · iexact Hbx
    isplitl [R0]; · iexact R0
    isplitl [R1]; · iexact R1
    isplitl [R2] <;> iassumption
  iintro HO
  ihave Hout := (Entails.of_eq (o_split c g1)) $$ Hout
  icases Hout with ⟨O0, O1, O2, O3, P0, P1, P2, P3⟩
  iapply (step_signal_y m ρ K c _ (Fin.ext (k0_dev2_eq c)) _ (by decide) g1) $$ [HO Hby P0 P1 P2 P3]
  · isplitr; · iexact Hrec
    isplitl [HO]; · iexact HO
    isplitl [Hby]; · iexact Hby
    isplitl [P0]; · iexact P0
    isplitl [P1]; · iexact P1
    isplitl [P2] <;> iassumption
  iintro HO
  -- the half, copied to the send buffer
  iapply (wp_load 𝒱₀ (c : Thread nD τ) none Set.univ (m := xM) (Finset.subset_univ _)) $$ Hx; iintro Hx
  iapply (wp_load_rect 𝒱₀ (c : Thread nD τ) none Set.univ (m := sM) (r := Rect.unit (s := S256x512) ![0, 0] S256x512.size inb_S256x512_S256x512_0_0) (Finset.subset_univ _)) $$ Hs; iintro Hs
  iapply (wp_store 𝒱₀ (c : Thread nD τ) none Set.univ (m := sM) (r := Rect.unit (s := S256x512) ![0, 0] S256x512.size inb_S256x512_S256x512_0_0) (Mk := Finset.univ) (Finset.subset_univ _)) $$ Hs; iintro Hs
  rw [copy_half]
  ihave Hs := (s_out c (xsV m ρ c)) $$ Hs
  icases Hs with ⟨⟨S0, S1, S2, S3⟩, T0, T1, T2, T3⟩
  -- the barrier's wait: the neighbours' buffers
  iapply (step_bar m ρ K c _ (by decide)) $$ [HO Hbc Hba]
  · isplitr; · iexact Hrec
    isplitl [HO]; · iexact HO
    isplitl [Hbc] <;> iassumption
  unfold barX barY
  iintro ⟨HO, HzB, ⟨%f, R0, R1, R2, R3⟩, %f', Q0, Q1, Q2, Q3⟩
  -- the four sends of the half
  iapply (step_send_x m ρ K c _ (Fin.ext (k0_dev3_eq c)) 0 rfl f) $$ [HO S0 R0 A0]
  · isplitr; · iexact Hrec
    isplitl [HO]; · iexact HO
    isplitl [S0]; · iexact S0
    isplitl [R0]; · iexact R0
    iexact A0
  iintro ⟨HO, A0⟩
  iapply (step_send_x m ρ K c _ (Fin.ext (k0_dev4_eq c)) 1 rfl f) $$ [HO S1 R1 A1]
  · isplitr; · iexact Hrec
    isplitl [HO]; · iexact HO
    isplitl [S1]; · iexact S1
    isplitl [R1]; · iexact R1
    iexact A1
  iintro ⟨HO, A1⟩
  iapply (step_send_x m ρ K c _ (Fin.ext (k0_dev5_eq c)) 2 rfl f) $$ [HO S2 R2 A2]
  · isplitr; · iexact Hrec
    isplitl [HO]; · iexact HO
    isplitl [S2]; · iexact S2
    isplitl [R2]; · iexact R2
    iexact A2
  iintro ⟨HO, A2⟩
  iapply (step_send_x m ρ K c _ (Fin.ext (k0_dev6_eq c)) 3 rfl f) $$ [HO S3 R3 A3]
  · isplitr; · iexact Hrec
    isplitl [HO]; · iexact HO
    isplitl [S3]; · iexact S3
    isplitl [R3]; · iexact R3
    iexact A3
  iintro ⟨HO, A3⟩
  rw [show oweX c ((3 : Fin 4).val + 1) = oweY c (0 : Fin 4).val from oweX_four c]
  -- the four chunks: landed, added, stored, sent on
  iapply (step_chunk m ρ K c _ (Fin.ext (k0_dev7_eq c)) 0 rfl (k0_off2_eq c 0) (k0_off3_eq c 0) g1 f') $$ [HO B0 T0 O0 Q0 C0]
  · isplitr; · iexact Hrec
    isplitl [HO]; · iexact HO
    isplitl [B0]; · iexact B0
    isplitl [T0]; · iexact T0
    isplitl [O0]; · iexact O0
    isplitl [Q0]; · iexact Q0
    iexact C0
  iintro ⟨HO, B0, T0, R0, C0⟩
  iapply (step_chunk m ρ K c _ (Fin.ext (k0_dev8_eq c)) 1 rfl (k0_off2_eq c 1) (k0_off3_eq c 1) g1 f') $$ [HO B1 T1 O1 Q1 C1]
  · isplitr; · iexact Hrec
    isplitl [HO]; · iexact HO
    isplitl [B1]; · iexact B1
    isplitl [T1]; · iexact T1
    isplitl [O1]; · iexact O1
    isplitl [Q1]; · iexact Q1
    iexact C1
  iintro ⟨HO, B1, T1, R1, C1⟩
  iapply (step_chunk m ρ K c _ (Fin.ext (k0_dev9_eq c)) 2 rfl (k0_off2_eq c 2) (k0_off3_eq c 2) g1 f') $$ [HO B2 T2 O2 Q2 C2]
  · isplitr; · iexact Hrec
    isplitl [HO]; · iexact HO
    isplitl [B2]; · iexact B2
    isplitl [T2]; · iexact T2
    isplitl [O2]; · iexact O2
    isplitl [Q2]; · iexact Q2
    iexact C2
  iintro ⟨HO, B2, T2, R2, C2⟩
  iapply (step_chunk m ρ K c _ (Fin.ext (k0_dev10_eq c)) 3 rfl (k0_off2_eq c 3) (k0_off3_eq c 3) g1 f') $$ [HO B3 T3 O3 Q3 C3]
  · isplitr; · iexact Hrec
    isplitl [HO]; · iexact HO
    isplitl [B3]; · iexact B3
    isplitl [T3]; · iexact T3
    isplitl [O3]; · iexact O3
    isplitl [Q3]; · iexact Q3
    iexact C3
  iintro ⟨HO, B3, T3, R3, C3⟩
  -- the waits for the sums of the other half
  iapply (step_done_o m ρ K c 3 0) $$ [HO D0]
  · isplitr; · iexact Hrec
    isplitl [HO]; · iexact HO
    iexact D0
  iintro ⟨HO, D0, P0⟩
  ihave P0 := (show dpay m ρ c ((3 : Fin 4) : ℕ) ((0 : Fin 4) : ℕ) ⊢ oPts c (4 * (1 - yy c) + 0) (outV m ρ c) from BI.Entails.refl _) $$ P0
  iapply (step_done_o m ρ K c 3 1) $$ [HO D1]
  · isplitr; · iexact Hrec
    isplitl [HO]; · iexact HO
    iexact D1
  iintro ⟨HO, D1, P1⟩
  ihave P1 := (show dpay m ρ c ((3 : Fin 4) : ℕ) ((1 : Fin 4) : ℕ) ⊢ oPts c (4 * (1 - yy c) + 1) (outV m ρ c) from BI.Entails.refl _) $$ P1
  iapply (step_done_o m ρ K c 3 2) $$ [HO D2]
  · isplitr; · iexact Hrec
    isplitl [HO]; · iexact HO
    iexact D2
  iintro ⟨HO, D2, P2⟩
  ihave P2 := (show dpay m ρ c ((3 : Fin 4) : ℕ) ((2 : Fin 4) : ℕ) ⊢ oPts c (4 * (1 - yy c) + 2) (outV m ρ c) from BI.Entails.refl _) $$ P2
  iapply (step_done_o m ρ K c 3 3) $$ [HO D3]
  · isplitr; · iexact Hrec
    isplitl [HO]; · iexact HO
    iexact D3
  iintro ⟨HO, D3, P3⟩
  ihave P3 := (show dpay m ρ c ((3 : Fin 4) : ℕ) ((3 : Fin 4) : ℕ) ⊢ oPts c (4 * (1 - yy c) + 3) (outV m ρ c) from BI.Entails.refl _) $$ P3
  -- the waits for the sends
  iapply (step_done_s m ρ K c 0 0) $$ [HO A0]
  · isplitr; · iexact Hrec
    isplitl [HO]; · iexact HO
    iexact A0
  iintro ⟨HO, A0, S0⟩
  ihave S0 := (show dpay m ρ c ((0 : Fin 4) : ℕ) ((0 : Fin 4) : ℕ) ⊢ sPts c 0 fullShare.left (xsV m ρ c) from BI.Entails.refl _) $$ S0
  iapply (step_done_o m ρ K c 2 0) $$ [HO C0]
  · isplitr; · iexact Hrec
    isplitl [HO]; · iexact HO
    iexact C0
  iintro ⟨HO, C0, O0⟩
  ihave O0 := (show dpay m ρ c ((2 : Fin 4) : ℕ) ((0 : Fin 4) : ℕ) ⊢ oPts c (4 * yy c + 0) (outV m ρ c) from BI.Entails.refl _) $$ O0
  iapply (step_done_s m ρ K c 0 1) $$ [HO A1]
  · isplitr; · iexact Hrec
    isplitl [HO]; · iexact HO
    iexact A1
  iintro ⟨HO, A1, S1⟩
  ihave S1 := (show dpay m ρ c ((0 : Fin 4) : ℕ) ((1 : Fin 4) : ℕ) ⊢ sPts c 1 fullShare.left (xsV m ρ c) from BI.Entails.refl _) $$ S1
  iapply (step_done_o m ρ K c 2 1) $$ [HO C1]
  · isplitr; · iexact Hrec
    isplitl [HO]; · iexact HO
    iexact C1
  iintro ⟨HO, C1, O1⟩
  ihave O1 := (show dpay m ρ c ((2 : Fin 4) : ℕ) ((1 : Fin 4) : ℕ) ⊢ oPts c (4 * yy c + 1) (outV m ρ c) from BI.Entails.refl _) $$ O1
  iapply (step_done_s m ρ K c 0 2) $$ [HO A2]
  · isplitr; · iexact Hrec
    isplitl [HO]; · iexact HO
    iexact A2
  iintro ⟨HO, A2, S2⟩
  ihave S2 := (show dpay m ρ c ((0 : Fin 4) : ℕ) ((2 : Fin 4) : ℕ) ⊢ sPts c 2 fullShare.left (xsV m ρ c) from BI.Entails.refl _) $$ S2
  iapply (step_done_o m ρ K c 2 2) $$ [HO C2]
  · isplitr; · iexact Hrec
    isplitl [HO]; · iexact HO
    iexact C2
  iintro ⟨HO, C2, O2⟩
  ihave O2 := (show dpay m ρ c ((2 : Fin 4) : ℕ) ((2 : Fin 4) : ℕ) ⊢ oPts c (4 * yy c + 2) (outV m ρ c) from BI.Entails.refl _) $$ O2
  iapply (step_done_s m ρ K c 0 3) $$ [HO A3]
  · isplitr; · iexact Hrec
    isplitl [HO]; · iexact HO
    iexact A3
  iintro ⟨HO, A3, S3⟩
  ihave S3 := (show dpay m ρ c ((0 : Fin 4) : ℕ) ((3 : Fin 4) : ℕ) ⊢ sPts c 3 fullShare.left (xsV m ρ c) from BI.Entails.refl _) $$ S3
  iapply (step_done_o m ρ K c 2 3) $$ [HO C3]
  · isplitr; · iexact Hrec
    isplitl [HO]; · iexact HO
    iexact C3
  iintro ⟨HO, C3, O3⟩
  ihave O3 := (show dpay m ρ c ((2 : Fin 4) : ℕ) ((3 : Fin 4) : ℕ) ⊢ oPts c (4 * yy c + 3) (outV m ρ c) from BI.Entails.refl _) $$ O3
  rw [wp_ret]
  imodintro
  iapply Hk
  unfold bodyPost Φ₁ scr zeros Dat.owesAt Pipeline.owesWithin
  rw [show (dats m ρ 0 c).owed t0_0.succ = 0 from rfl, oweY_four]
  isplitl [S0 S1 S2 S3 T0 T1 T2 T3 R0 R1 R2 R3 A0 A1 A2 A3 B0 B1 B2 B3 C0 C1 C2 C3 D0 D1 D2 D3 HzB]
  · isplitl [S0 S1 S2 S3 T0 T1 T2 T3 R0 R1 R2 R3]
    · isplitl [S0 S1 S2 S3 T0 T1 T2 T3]
      · iexists (xsV m ρ c)
        iapply (s_back c (xsV m ρ c))
        isplitl [S0 S1 S2 S3]
        · isplitl [S0]; · iexact S0
          isplitl [S1]; · iexact S1
          isplitl [S2]; · iexact S2
          iexact S3
        isplitl [T0]; · iexact T0
        isplitl [T1]; · iexact T1
        isplitl [T2]; · iexact T2
        iexact T3
      · iexists (xsV m ρ (xp c))
        iapply (Entails.of_eq (r_split c (xsV m ρ (xp c))).symm)
        isplitl [R0]; · iexact R0
        isplitl [R1]; · iexact R1
        isplitl [R2]; · iexact R2
        iexact R3
    isplitl [A0 A1 A2 A3 B0 B1 B2 B3 C0 C1 C2 C3 D0 D1 D2 D3]
    · isplitl [A0 B0 C0 D0]
      · isplitl [A0]; · iexact A0
        isplitl [B0]; · iexact B0
        isplitl [C0]; · iexact C0
        iexact D0
      isplitl [A1 B1 C1 D1]
      · isplitl [A1]; · iexact A1
        isplitl [B1]; · iexact B1
        isplitl [C1]; · iexact C1
        iexact D1
      isplitl [A2 B2 C2 D2]
      · isplitl [A2]; · iexact A2
        isplitl [B2]; · iexact B2
        isplitl [C2]; · iexact C2
        iexact D2
      isplitl [A3]; · iexact A3
      isplitl [B3]; · iexact B3
      isplitl [C3]; · iexact C3
      iexact D3
    iexact HzB
  isplitl [HO]
  · unfold ow
    icases HO with ⟨%W', HO⟩
    iexists W'
    isplitr; · ipureintro; exact fun _ _ => Or.inl trivial
    iexact HO
  isplitl [Hx]
  · iexists _
    isplitr; · (ipureintro; rfl)
    iexact Hx
  iexists (outV m ρ c)
  isplitr; · (ipureintro; rfl)
  iapply (Entails.of_eq (o_split c (outV m ρ c)).symm)
  isplitl [O0]; · iexact O0
  isplitl [O1]; · iexact O1
  isplitl [O2]; · iexact O2
  isplitl [O3]; · iexact O3
  isplitl [P0]; · iexact P0
  isplitl [P1]; · iexact P1
  isplitl [P2]; · iexact P2
  iexact P3

/-- The body's obligation at the launch. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  iintro H
  iapply (sound_body m ρ c fun _ => bodyPost m ρ c)
  isplitl [H]; · iexact H
  iintro H
  iexact H

end Cert.HalfSum
-- ==== Proof.Launch.lean ====
/- The launch: the semaphores' invariants are set up, every device is dealt the duties it pays and the credits it waits
   for, and the run of the whole program follows from the run of the body. -/
module

public import Idealize.ShloMosaic.Lib.Pipeline.Launch
public import Idealize.ShloMosaic.Lib.Pipeline.Kit
public import Idealize.ShloMosaic.Lib.Pipeline.CollectiveSegs
public import Idealize.ShloMosaic.Lib.Tactic
public import proofs.«01_k».proof.Proof.Gen.KernelIdeal.Launch
public import proofs.«01_k».proof.Proof.Body

@[expose] public section

set_option maxRecDepth 16000

noncomputable section

namespace Cert.HalfSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The seventeen semaphores of a device -/

/-- The semaphore of kind `j` for chunk `k` of device `c`. -/
abbrev dCell (c : Dev nD) (j k : Fin 4) : GSem nD τ sig := ((c : Thread nD τ), .dma (dq j k))

/-- What follows index by index follows for all. -/
theorem each {I : Type} [Fintype I] {Φ Ψ : I → sProp 𝕄} (h : ∀ i, Φ i ⊢ Ψ i) : bigSep Finset.univ Φ ⊢ bigSep Finset.univ Ψ :=
  bigSep_mono fun i _ => h i

/-- A persistent fact, as often as wanted. -/
theorem spread {I : Type} [Fintype I] [DecidableEq I] (R : sProp 𝕄) [BI.Persistent R] : R ⊢ bigSep (Finset.univ : Finset I) fun _ => R :=
  BI.bigSep_of_persistent Finset.univ R

/-- Brackets to the right. -/
theorem to_right (A B C : sProp 𝕄) : iprop((A ∗ B) ∗ C) = iprop(A ∗ B ∗ C) := by
  have h1 : iprop((A ∗ B) ∗ C) ⊢ iprop(A ∗ B ∗ C) := by
    iintro ⟨⟨H, H'⟩, H''⟩
    isplitl [H]; · iexact H
    isplitl [H'] <;> iassumption
  have h2 : iprop(A ∗ B ∗ C) ⊢ iprop((A ∗ B) ∗ C) := by
    iintro ⟨H, H', H''⟩
    isplitr [H'']
    · isplitl [H] <;> iassumption
    iexact H''
  exact equiv_iff.mp ⟨h1, h2⟩

/-- Three families joined index by index. -/
theorem join3 {I : Type} [Fintype I] [DecidableEq I] (A B C : I → sProp 𝕄) :
    iprop(bigSep Finset.univ A ∗ bigSep Finset.univ B ∗ bigSep Finset.univ C) = bigSep Finset.univ fun i => iprop(A i ∗ B i ∗ C i) := by
  rw [bigSep_sep', bigSep_sep']

/-- A fact about each of seventeen numbers: number 0, then by chunks the four kinds. -/
theorem by_chunks (Φ : Fin 17 → sProp 𝕄) :
    bigSep Finset.univ Φ = iprop(Φ 0 ∗ bigSep Finset.univ fun k : Fin 4 => iprop(Φ (ci 0 k) ∗ Φ (ci 1 k) ∗ Φ (ci 2 k) ∗ Φ (ci 3 k))) := by
  rw [four, bigSep_univ_eq_bigSepL [(0 : Fin 17), 1, 5, 9, 13, 2, 6, 10, 14, 3, 7, 11, 15, 4, 8, 12, 16] (by decide) (by decide)]
  simp only [to_right]
  rfl

/-- A fact about each semaphore of a device: the barrier's, then by chunks the four kinds'. -/
theorem by_cells (c : Dev nD) (Φ : GSem nD τ sig → sProp 𝕄) :
    (bigSep Finset.univ fun i : Fin 17 => Φ (kcell (c, i)))
      = iprop(Φ (barCell c) ∗ bigSep Finset.univ fun k : Fin 4 => iprop(Φ (dCell c 0 k) ∗ Φ (dCell c 1 k) ∗ Φ (dCell c 2 k) ∗ Φ (dCell c 3 k))) := by
  rw [by_chunks]
  rfl

theorem csem_inj : Function.Injective csem := by
  intro i i' h
  unfold csem at h
  split at h <;> split at h
  · exact Fin.ext (by omega)
  · cases h
  · cases h
  · have h' := congrArg Fin.val (SemLoc.dma.inj h)
    exact Fin.ext (by simpa using h')

theorem kcell_inj : Function.Injective (kcell : Dev nD × Fin 17 → GSem nD τ sig) := by
  rintro ⟨c, i⟩ ⟨c', i'⟩ h
  have h1 : c = c' := congrArg (fun g : GSem nD τ sig => g.1.1) h
  have h2 : csem i = csem i' := congrArg Prod.snd h
  rw [h1, csem_inj h2]

/-- All semaphores of all devices. -/
noncomputable def allCells : Finset (GSem nD τ sig) := Finset.univ.map ⟨kcell, kcell_inj⟩

/-- The duties of a device's semaphores: one of each, and a second one of the barrier's. -/
noncomputable def dutyOf (p : Dev nD × (Unit ⊕ Fin 17)) : GSem nD τ sig × ℕ × Bool :=
  match p.2 with
  | .inl _ => (barCell p.1, 0, true)
  | .inr i => (kcell (p.1, i), 0, false)

theorem dutyOf_inj : Function.Injective dutyOf := by
  rintro ⟨c, j⟩ ⟨c', j'⟩ h
  rcases j with j | j <;> rcases j' with j' | j'
  · have h1 : c = c' := congrArg (fun x : GSem nD τ sig × ℕ × Bool => x.1.1.1) h
    rw [h1]
  · exact absurd (congrArg (fun x : GSem nD τ sig × ℕ × Bool => x.2.2) h) (by simp [dutyOf])
  · exact absurd (congrArg (fun x : GSem nD τ sig × ℕ × Bool => x.2.2) h) (by simp [dutyOf])
  · have h1 := kcell_inj (congrArg Prod.fst h : kcell (c, j) = kcell (c', j'))
    have h2 : c = c' := congrArg Prod.fst h1
    have h3 : j = j' := congrArg Prod.snd h1
    rw [h2, h3]

noncomputable def allDuties : Finset (GSem nD τ sig × ℕ × Bool) := Finset.univ.map ⟨dutyOf, dutyOf_inj⟩

/-- The launch's element: the staging pipeline's and the kernel's. -/
noncomputable def u₀ : UU :=
  (initOf (Pipeline.cells cfgs cellOf_inj) (Pipeline.launchToks cfgs cellOf_inj), initOf allCells allDuties)

/-- The duties of the semaphores of `c`. -/
noncomputable def ownDuties (c : Dev nD) : sProp 𝕄 :=
  iprop(dutyTok ER (barCell c) 0 true ∗ dutyTok ER (barCell c) 0 false
    ∗ bigSep Finset.univ fun k : Fin 4 => iprop(dutyTok ER (dCell c 0 k) 0 false ∗ dutyTok ER (dCell c 1 k) 0 false
      ∗ dutyTok ER (dCell c 2 k) 0 false ∗ dutyTok ER (dCell c 3 k) 0 false))

/-- The duties that `c` pays. -/
noncomputable def payDuties (c : Dev nD) : sProp 𝕄 :=
  iprop(dutyTok ER (barCell (xp c)) 0 true ∗ dutyTok ER (barCell (yp c)) 0 false
    ∗ bigSep Finset.univ fun k : Fin 4 => iprop(dutyTok ER (dCell c 0 k) 0 false ∗ dutyTok ER (dCell (xp c) 1 k) 0 false
      ∗ dutyTok ER (dCell c 2 k) 0 false ∗ dutyTok ER (dCell (yp c) 3 k) 0 false))

/-- What the launch deals to `c`. -/
noncomputable def G (c : Dev nD) : sProp 𝕄 :=
  iprop((bigSep Finset.univ fun i : Fin 17 => roundState ER (Rd m ρ) (kcell (c, i)) 0)
    ∗ (bigSep Finset.univ fun i : Fin 17 => atPos ER (kcell (c, i)) 0 ∅ 0)
    ∗ (bigSep Finset.univ fun i : Fin 17 => reached ER (kcell (c, i)) 0) ∗ ownDuties c)

/-- What the devices make of it together: the invariants' names, the positions of `c`, and the duties it pays. -/
noncomputable def G' (c : Dev nD) : sProp 𝕄 :=
  iprop((∃ K : Dev nD × Fin 17 → ℕ, (bigSep Finset.univ fun p : Dev nD × Fin 17 => cellInv ER (Rd m ρ) (K p) (kcell p))
      ∗ bigSep Finset.univ fun p : Dev nD × Fin 17 => reached ER (kcell p) 0)
    ∗ (bigSep Finset.univ fun i : Fin 17 => atPos ER (kcell (c, i)) 0 ∅ 0) ∗ payDuties c)

theorem deal : BI.own (ER (initOf allCells allDuties)) ⊢ (|==> bigSep Finset.univ (G m ρ) : sProp 𝕄) := by
  have hc (Φ : GSem nD τ sig → sProp 𝕄) :
      bigSep allCells Φ = bigSep Finset.univ fun c : Dev nD => bigSep Finset.univ fun i : Fin 17 => Φ (kcell (c, i)) := by
    unfold allCells
    rw [bigSep_map, bigSep_univ_prod]
    rfl
  have hd : bigSep allDuties (fun x => (dutyTok ER x.1 x.2.1 x.2.2 : sProp 𝕄)) = bigSep Finset.univ fun c : Dev nD => ownDuties c := by
    unfold allDuties
    rw [bigSep_map, bigSep_univ_prod]
    refine bigSep_congr fun c _ => ?_
    rw [bigSep_univ_sum]
    unfold ownDuties
    rw [← by_cells c fun g => dutyTok ER g 0 false, bigSep_univ_of_subsingleton ()]
    rfl
  iintro H
  imod (Rounds.fund ER (Rd m ρ) allCells allDuties) $$ H with ⟨Hs, Hr, Ha, Hd⟩
  imodintro
  ihave Hs := (Entails.of_eq (hc fun g => roundState ER (Rd m ρ) g 0)) $$ Hs
  ihave Ha := (Entails.of_eq (hc fun g => atPos ER g 0 ∅ 0)) $$ Ha
  ihave Hr := (Entails.of_eq (hc fun g => reached ER g 0)) $$ Hr
  ihave Hd := (Entails.of_eq hd) $$ Hd
  unfold G
  simp only [bigSep_sep']
  isplitl [Hs]; · iexact Hs
  isplitl [Ha]; · iexact Ha
  isplitl [Hr]; · iexact Hr
  iexact Hd

/-! ## The semaphores at the start and at the end -/

theorem own_zero (c : Dev nD) : (Pipeline.ownSems0 (Ix := Unit) (Name := ℕ) (U := UU) (Lvl := ℕ) (Val := Elt F) (τ := τ) osem c : sProp 𝕄)
    = bigSep Finset.univ fun k : Fin 4 => zeros c k := by
  rw [Pipeline.ownSems0_eq_of_list c osem [0, 4, 8, 12, 1, 5, 9, 13, 2, 6, 10, 14, 3, 7, 11, 15] (by decide) (by decide), four]
  unfold zeros zero
  simp only [to_right]
  rfl

theorem bar_zero (c : Dev nD) : (unscopedSems0 c : sProp 𝕄) = semVal (barCell c) 0 := by
  unfold unscopedSems0
  rw [bigSep_eq_bigSepL_of_eq [SemLoc.reg barS] (by decide) (by decide)]
  rfl

/-- All seventeen semaphores of a device start at zero. -/
theorem all_zero (c : Dev nD) :
    iprop(Pipeline.ownSems0 (Ix := Unit) (Name := ℕ) (U := UU) (Lvl := ℕ) (Val := Elt F) (τ := τ) osem c ∗ unscopedSems0 c)
      ⊢ (bigSep Finset.univ fun i : Fin 17 => semVal (kcell (c, i)) 0 : sProp 𝕄) := by
  rw [own_zero, bar_zero, by_cells c fun g => semVal g 0]
  unfold zeros zero
  iintro ⟨H, HB⟩
  isplitl [HB]; · iexact HB
  iexact H

/-- A device turns its semaphores and their round states into invariants. -/
theorem make_invs (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Fin 17 => iprop(∃ κ : ℕ, cellInv ER (Rd m ρ) κ (kcell (c, i))))
          ∗ (bigSep Finset.univ fun i : Fin 17 => atPos ER (kcell (c, i)) 0 ∅ 0)
          ∗ (bigSep Finset.univ fun i : Fin 17 => reached ER (kcell (c, i)) 0) ∗ ownDuties c) := by
  have hi : iprop((bigSep Finset.univ fun i : Fin 17 => semVal (kcell (c, i)) 0)
        ∗ bigSep Finset.univ fun i : Fin 17 => roundState ER (Rd m ρ) (kcell (c, i)) 0)
      ⊢ (|={Set.univ}=> bigSep Finset.univ fun i : Fin 17 => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  unfold G
  iintro ⟨Ho, Hb, Hs, Ha, Hr, Hd⟩
  ihave Hz := (all_zero (F := F) c) $$ [Ho Hb]
  · isplitl [Ho] <;> iassumption
  imod hi $$ [Hz Hs] with Hi
  · isplitl [Hz] <;> iassumption
  imodintro
  isplitl [Hi]; · iexact Hi
  isplitl [Ha]; · iexact Ha
  isplitl [Hr]; · iexact Hr
  iexact Hd

/-! ## Every duty goes to the device that pays it -/

theorem swap_duties : (bigSep Finset.univ fun c : Dev nD => (ownDuties c : sProp 𝕄)) ⊢ bigSep Finset.univ fun c : Dev nD => payDuties c := by
  unfold ownDuties payDuties
  simp only [bigSep_sep']
  rw [bigSep_univ_equiv xSwap (fun c : Dev nD => (dutyTok ER (barCell c) 0 true : sProp 𝕄)),
    bigSep_univ_equiv ySwap (fun c : Dev nD => (dutyTok ER (barCell c) 0 false : sProp 𝕄)),
    bigSep_univ_equiv xSwap (fun c : Dev nD => bigSep Finset.univ fun k : Fin 4 => (dutyTok ER (dCell c 1 k) 0 false : sProp 𝕄)),
    bigSep_univ_equiv ySwap (fun c : Dev nD => bigSep Finset.univ fun k : Fin 4 => (dutyTok ER (dCell c 3 k) 0 false : sProp 𝕄))]
  exact BI.Entails.refl _

/-- The invariants' names are shared by all devices. -/
theorem share_names :
    (bigSep Finset.univ fun c : Dev nD => iprop((bigSep Finset.univ fun i : Fin 17 => iprop(∃ κ : ℕ, cellInv ER (Rd m ρ) κ (kcell (c, i))))
          ∗ (bigSep Finset.univ fun i : Fin 17 => atPos ER (kcell (c, i)) 0 ∅ 0)
          ∗ (bigSep Finset.univ fun i : Fin 17 => reached ER (kcell (c, i)) 0) ∗ ownDuties c) : sProp 𝕄)
      ⊢ bigSep Finset.univ (G' m ρ) := by
  rw [bigSep_sep', bigSep_sep', bigSep_sep', ← bigSep_univ_prod (fun p : Dev nD × Fin 17 => iprop(∃ κ : ℕ, cellInv ER (Rd m ρ) κ (kcell p))),
    ← bigSep_univ_prod (fun p : Dev nD × Fin 17 => (reached ER (kcell p) 0 : sProp 𝕄))]
  iintro ⟨HI, Ha, #HR, Hd⟩
  ihave HK := (BI.bigSep_exists_pi Finset.univ (fun (p : Dev nD × Fin 17) (κ : ℕ) => (cellInv ER (Rd m ρ) κ (kcell p) : sProp 𝕄))) $$ HI
  icases HK with ⟨%K, #HI⟩
  ihave Hd := (swap_duties (F := F)) $$ Hd
  ihave HN := (spread (F := F) (I := Dev nD)
    iprop((bigSep Finset.univ fun p : Dev nD × Fin 17 => cellInv ER (Rd m ρ) (K p) (kcell p))
      ∗ bigSep Finset.univ fun p : Dev nD × Fin 17 => reached ER (kcell p) 0)) $$ []
  · isplitl
    · iexact HI
    iexact HR
  have hG : iprop((bigSep (Finset.univ : Finset (Dev nD)) fun _ => iprop((bigSep Finset.univ fun p : Dev nD × Fin 17 => cellInv ER (Rd m ρ) (K p) (kcell p))
        ∗ bigSep Finset.univ fun p : Dev nD × Fin 17 => reached ER (kcell p) 0))
      ∗ (bigSep Finset.univ fun c : Dev nD => bigSep Finset.univ fun i : Fin 17 => atPos ER (kcell (c, i)) 0 ∅ 0)
      ∗ bigSep Finset.univ fun c : Dev nD => payDuties c) ⊢ (bigSep Finset.univ (G' m ρ) : sProp 𝕄) := by
    rw [join3]
    refine each fun c => ?_
    unfold G'
    iintro ⟨H, H'⟩
    isplitl [H]
    · iexists K
      iexact H
    iexact H'
  iapply hG
  isplitl [HN]; · iexact HN
  isplitl [Ha]; · iexact Ha
  iexact Hd

/-- All devices together, from their semaphores and what they were dealt. -/
theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => make_invs m ρ c).trans (bigSep_fupd _ _)).trans (BI.fupd_mono (share_names m ρ))

/-! ## The credits -/

/-- What the devices owe, as credit of the device it is owed to: two units at the barrier and a chunk at each receive
    semaphore. -/
theorem credits (c : Dev nD) :
    (Pipeline.launchCred O₀ c : sProp 𝕄) ⊢ iprop(cred (tallyAt (barCell c) () 2)
      ∗ (bigSep Finset.univ fun k : Fin 4 => cred (tallyAt (dCell c 1 k) () N)) ∗ bigSep Finset.univ fun k : Fin 4 => cred (tallyAt (dCell c 3 k) () N)) := by
  have h0 : O₀ = fun d => (∑ k : Fin 4, tallyAt (dCell (yp d) 3 k) () N + ∑ k : Fin 4, tallyAt (dCell (xp d) 1 k) () N
      + tallyAt (barCell (yp d)) () 1) + tallyAt (barCell (xp d)) () 1 := by
    funext d
    unfold O₀ oweB oweX oweY
    simp only [Nat.zero_le, if_true]
  rw [h0, Pipeline.launchCred_add, Pipeline.launchCred_add, Pipeline.launchCred_add, Pipeline.launchCred_sum, Pipeline.launchCred_sum]
  iintro ⟨⟨⟨Hy, Hx⟩, Hb⟩, Hb'⟩
  ihave Hb := (Pipeline.launchCred_tallyAt (SemLoc.reg barS) yp yp yp_yp yp_yp () 1 c) $$ Hb
  ihave Hb' := (Pipeline.launchCred_tallyAt (SemLoc.reg barS) xp xp xp_xp xp_xp () 1 c) $$ Hb'
  isplitl [Hb Hb']
  · rw [show (tallyAt (barCell c) () 2 : CellTallies nD τ sig Unit) = tallyAt (barCell c) () 1 + tallyAt (barCell c) () 1 from (tallyAt_add _ _ 1 1).symm]
    iapply (cred_add _ _).2
    isplitl [Hb] <;> iassumption
  isplitl [Hx]
  · iapply (each fun k => Pipeline.launchCred_tallyAt (SemLoc.dma (dq 1 k)) xp xp xp_xp xp_xp () N c)
    iexact Hx
  iapply (each fun k => Pipeline.launchCred_tallyAt (SemLoc.dma (dq 3 k)) yp yp yp_yp yp_yp () N c)
  iexact Hy

/-- Positions, duties and credits, chunk by chunk. -/
theorem chunks_intro (c : Dev nD) :
    iprop((bigSep Finset.univ fun k : Fin 4 => iprop(atPos ER (dCell c 0 k) 0 ∅ 0 ∗ atPos ER (dCell c 1 k) 0 ∅ 0
          ∗ atPos ER (dCell c 2 k) 0 ∅ 0 ∗ atPos ER (dCell c 3 k) 0 ∅ 0))
        ∗ (bigSep Finset.univ fun k : Fin 4 => iprop(dutyTok ER (dCell c 0 k) 0 false ∗ dutyTok ER (dCell (xp c) 1 k) 0 false
          ∗ dutyTok ER (dCell c 2 k) 0 false ∗ dutyTok ER (dCell (yp c) 3 k) 0 false))
        ∗ (bigSep Finset.univ fun k : Fin 4 => cred (tallyAt (dCell c 1 k) () N)) ∗ bigSep Finset.univ fun k : Fin 4 => cred (tallyAt (dCell c 3 k) () N))
      ⊢ (iprop(chunkR c 0 ∗ chunkR c 1 ∗ chunkR c 2 ∗ chunkR c 3) : sProp 𝕄) := by
  rw [← four (fun k => chunkR c k), ← bigSep_sep', ← bigSep_sep', ← bigSep_sep']
  refine each fun k => ?_
  unfold chunkR sendR waitR
  iintro ⟨⟨A0, A1, A2, A3⟩, ⟨D0, D1, D2, D3⟩, C1, C3⟩
  isplitl [A0 D0 D1]
  · isplitl [D0]; · iexact D0
    isplitl [D1] <;> iassumption
  isplitl [A1 C1]
  · isplitl [C1] <;> iassumption
  isplitl [A2 D2 D3]
  · isplitl [D2]; · iexact D2
    isplitl [D3] <;> iassumption
  isplitl [C3] <;> iassumption

/-! ## What the launch theorem asks -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits (F := F) c) $$ Hcr
  icases Hc with ⟨HcB, Hc1, Hc3⟩
  unfold G' payDuties
  icases HG with ⟨⟨%K, HI, HR⟩, Ha, HdX, HdY, Hd⟩
  ihave Ha := (Entails.of_eq (by_cells c fun g => atPos ER g 0 ∅ 0)) $$ Ha
  icases Ha with ⟨HaB, Ha⟩
  imodintro
  unfold start records barR
  isplitl
  · isplitl [HI HR Hlev]
    · iexists K
      isplitl [HI]; · iexact HI
      isplitl [HR] <;> iassumption
    isplitl [HcB HaB HdX HdY]
    · isplitl [HcB]; · iexact HcB
      isplitl [HaB]; · iexact HaB
      isplitl [HdX] <;> iassumption
    iapply (chunks_intro c)
    isplitl [Ha]; · iexact Ha
    isplitl [Hd]; · iexact Hd
    isplitl [Hc1] <;> iassumption
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zero, bar_zero, four]
  unfold Φ₁ scr
  iintro ⟨Hr, Hz, HB⟩
  isplitl [HB]; · iexact HB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

theorem ownFacts : Pipeline.OwnSemFacts cfg0.spec osem := by decide

/-! ## The run -/

/-- What the array of window `w` of `c` holds after the run. -/
noncomputable def finalA (c : Dev nD) (w : Fin cfg0.W) : Buf (Elt F) ((cfg0.win w).arr.view.loc (c : Thread nD τ)) := (dats m ρ 0 c).arrAt w cfg0.N

/-- From any memory, with every counter at zero: every weakly fair run of the program on the sixteen devices ends, the
    arrays holding what the proof data say and every counter at zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is as it was. -/
theorem final_x (c : Dev nD) : finalA m ρ c (0 : Fin 2) = (s₀ m ρ).mem (win0_0.arr.view.loc (c : Thread nD τ)) :=
  (dats (F := F) m ρ 0 c).arrAt_in (0 : Fin 2) rfl _

end Cert.HalfSum
-- ==== Proof.Value.lean ====
/- The value: what the kernel leaves on every device is the sum of the two halves of the reference's argument. -/
module

public import proofs.«01_k».proof.Defs
public import proofs.«01_k».proof.Proof.Gen.ReferenceIdeal.Run
public import proofs.«01_k».proof.Proof.Launch
public import Idealize.ShloMosaic.Lib.Pointwise

@[expose] public section

noncomputable section

namespace Cert.HalfSum

open Cert.KernelIdeal Cert.KernelIdeal.Gen
open Idealize.ShloMosaic
open Idealize.ShloMosaic.TcCoe
open Idealize.SL Idealize.SL.Sem

/-! ## The reference's result -/

/-- The reference's result of the whole argument `w`. -/
noncomputable def refV (w : Cert.ReferenceIdeal.S1024x512.Idx → Ideal .bf16) : S512x512.Idx → Ideal .bf16 :=
  truncf .bf16 (Host.reduceAdd (extf (F := Ideal) .f32 (shapeCast Cert.ReferenceIdeal.S2x512x512 w Cert.ReferenceIdeal.Gen.shapeCasts_S1024x512_S2x512x512) Cert.ReferenceIdeal.Gen.bitsLt_bf16_f32)
    (constant Cert.ReferenceIdeal.S_ .f32 0x00000000#32) Cert.ReferenceIdeal.Gen.reducesTo_S2x512x512_S512x512_d0 Cert.ReferenceIdeal.Gen.h_S_) Cert.ReferenceIdeal.Gen.bitsLt_bf16_f32

/-- Row `i` of it is the sum of rows `i` and `512 + i` of the argument. -/
theorem refV_apply (w : Cert.ReferenceIdeal.S1024x512.Idx → Ideal .bf16) (i : S512x512.Idx) :
    refV w i = w (ix2 ⟨(i 0).val, Nat.lt_trans (i 0).isLt (by decide)⟩ (i 1)) + w (ix2 ⟨512 + (i 0).val, Nat.add_lt_add_left (i 0).isLt 512⟩ (i 1)) := by
  unfold refV
  simp only [pointwise]
  rw [zero_add, Fin.sum_univ_two]
  refine congrArg₂ (· + ·) (congrArg w (congrArg (fun a => ix2 a (i 1)) (Fin.ext ?_))) (congrArg w (congrArg (fun a => ix2 a (i 1)) (Fin.ext ?_)))
  · show 0 * 512 + (i 0).val = (i 0).val
    omega
  · show 1 * 512 + (i 0).val = 512 + (i 0).val
    omega

section
variable {F : FTy → Type} [FloatOps F]
variable (m : (ℓ : Loc nD τ sig) → Buf (Elt F) ℓ) (ρ : Dev nD → PrngReg)

/-- The staged block is the device's argument. -/
theorem xstg_eq (c : Dev nD) : xstg m ρ c = m ((c : Thread nD τ).loc main_arg0) :=
  Memref.read_access_unit_zero (Elt F) main_arg0 (funext fun a => by fin_cases a <;> decide) (fun a => by fin_cases a <;> decide) _

/-- The result array ends holding the result. -/
theorem final_out (c : Dev nD) : finalA m ρ c (1 : Fin 2) = outV m ρ c := by
  have h : (win0_1.blk (0 : Fin 1)).view.read (Elt F) (finalA m ρ c (1 : Fin 2)) = outV m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from flush0_1 _, if_pos rfl]
    exact View.read_write_univ _ _
  exact (Memref.read_access_unit_zero (Elt F) main_v1 (funext fun a => by fin_cases a <;> decide) (fun a => by fin_cases a <;> decide) _).symm.trans h

/-- Where the copied half begins. -/
theorem half_at (c : Dev nD) : k0_off1 c = ![256 * yy c, 0] := by revert c; decide

/-- An element of the copied half, in the argument. -/
theorem xsV_apply (c : Dev nD) (i : S512x512.Idx) (h : (i 0).val / 256 = yy c) :
    xsV m ρ c (inHalf i) = m ((c : Thread nD τ).loc main_arg0) i := by
  rw [← xstg_eq m ρ c]
  refine congrArg (xstg m ρ c) (funext fun a => Fin.ext ?_)
  show k0_off1 c a + 1 * ((i a).val % S256x512.size a) = (i a).val
  rw [half_at]
  match a with
  | 0 =>
    show 256 * yy c + 1 * ((i 0).val % 256) = (i 0).val
    omega
  | 1 =>
    have e : (i 1).val < 512 := (i 1).isLt
    show 0 + 1 * ((i 1).val % 512) = (i 1).val
    omega

end

/-! ## The two agree -/

variable (m : (ℓ : Loc nD τ sig) → Buf (Elt Ideal) ℓ) (ρ : Dev nD → PrngReg)

/-- Every device's argument is its block of `w`: rows from row 0 or from row 512 on. -/
def Blocks (w : Cert.ReferenceIdeal.S1024x512.Idx → Ideal .bf16) : Prop :=
  ∀ c : Dev nD, m ((c : Thread nD τ).loc main_arg0) = Layout.blockN ⟨2, ![512, 512]⟩ ⟨2, ![1024, 512]⟩ (Layout.meshBlock [2, 2, 4] ![[0], []] c) w

/-- An element of a device's argument: its row is `512` times the device's first mesh coordinate further on in `w`. -/
theorem block_at {w : Cert.ReferenceIdeal.S1024x512.Idx → Ideal .bf16} (h : Blocks m w) (c : Dev nD) (i : S512x512.Idx) (r : Fin 1024)
    (hr : r.val = 512 * (c.val / 8) + (i 0).val) : m ((c : Thread nD τ).loc main_arg0) i = w (ix2 r (i 1)) := by
  rw [h c, Layout.blockN_apply]
  refine congrArg w (funext fun a => Fin.ext ?_)
  rw [Layout.TilesN.idx_val]
  have hc : c.val < 16 := c.isLt
  match a with
  | 0 =>
    show (c.val / 8 % 2 * 1 + 0) * 512 + (i 0).val = r.val
    omega
  | 1 =>
    show 0 * 512 + (i 1).val = (i 1).val
    omega

/-- Two devices across the first mesh axis hold between them both rows that the reference adds. -/
theorem pair_sum {w : Cert.ReferenceIdeal.S1024x512.Idx → Ideal .bf16} (h : Blocks m w) (c : Dev nD) (i : S512x512.Idx) :
    FloatOps.addf (F := Ideal) (φ := .bf16) (m ((c : Thread nD τ).loc main_arg0) i) (m (((xp c : Dev nD) : Thread nD τ).loc main_arg0) i) = refV w i := by
  rw [refV_apply]
  have hc : c.val < 16 := c.isLt
  have hx : (xp c).val / 8 = 1 - c.val / 8 := by revert c; decide
  rcases (by omega : c.val / 8 = 0 ∨ c.val / 8 = 1) with h0 | h1
  · rw [block_at m h c i ⟨(i 0).val, Nat.lt_trans (i 0).isLt (by decide)⟩ (by rw [h0]; simp),
      block_at m h (xp c) i ⟨512 + (i 0).val, Nat.add_lt_add_left (i 0).isLt 512⟩ (by rw [hx, h0])]
    rfl
  · rw [block_at m h c i ⟨512 + (i 0).val, Nat.add_lt_add_left (i 0).isLt 512⟩ (by rw [h1]),
      block_at m h (xp c) i ⟨(i 0).val, Nat.lt_trans (i 0).isLt (by decide)⟩ (by rw [hx, h1]; simp)]
    exact add_comm (G := EReal) _ _

/-- The result on every device is the reference's. -/
theorem outV_ref {w : Cert.ReferenceIdeal.S1024x512.Idx → Ideal .bf16} (h : Blocks m w) (c : Dev nD) : outV m ρ c = refV w := by
  funext i
  have hd : (i 0).val / 256 = yy (halfDev c i) := by
    have hi : (i 0).val < 512 := (i 0).isLt
    have := yy_lt c
    unfold halfDev
    split
    · assumption
    · rw [yy_yp]; omega
  unfold outV
  rw [xsV_apply m ρ _ i hd, xsV_apply m ρ _ i (hd.trans (yy_xp _).symm)]
  exact pair_sum m h _ i

end Cert.HalfSum
-- ==== Proof.lean ====
/- The proof of the certificate's claim. The kernel's run is proved once, at any float values (Proof/Launch.lean over
   Proof/Body.lean); the two frames are that run read at the argument array, and the value claim is that run read at the
   result array, which Proof/Value.lean finds equal to the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel runs at any float values, keeps its argument and leaves every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.HalfSum.final_x m ρ c), h.2⟩)
    (Cert.HalfSum.run_main m ρ)

/-- The two printed programs have the same kernel, -/
theorem same_kernels : Cert.Kernel.defs₀ (F := Bits) = Cert.KernelIdeal.defs₀ (F := Bits) := by
  unfold Cert.Kernel.defs₀ Cert.KernelIdeal.defs₀
  refine congrArg Defs.onTc ?_
  funext l t
  match l, t with
  | 0, (t, s) => rfl

/-- and so the same table of bodies. -/
theorem same_bodies : Cert.Kernel.defs (F := Bits) = Cert.KernelIdeal.defs (F := Bits) := by
  unfold Cert.Kernel.defs Cert.KernelIdeal.defs
  exact congrArg _ same_kernels

/-- The kernel's run at the machine's own floats. -/
theorem frame_kernel : Cert.quiescent_Kernel := by
  intro m ρ _
  rw [same_bodies]
  exact frame_any (F := Bits) m ρ

/-- The kernel's run at exact numbers. -/
theorem frame_ideal : Cert.quiescent_KernelIdeal := fun m ρ _ => frame_any (F := Ideal) m ρ

/-- The reference runs, keeps its argument, and has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's result on every device is the reference's, whatever the argument. -/
theorem value : Cert.algebraic_KernelIdeal_ReferenceIdeal := fun m g m' g' _ hblk =>
  ⟨Cert.HalfSum.refV (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c (1 : Fin 2)).trans ((Cert.HalfSum.final_out m g c).trans (Cert.HalfSum.outV_ref m g hblk c)),
        (h.1 c (0 : Fin 2)).trans (Cert.HalfSum.final_x m g c)⟩)
      (Cert.HalfSum.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
